-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_ok : Cert.Pre_sizes_ok.Facts) (hPre_inputs_ok : Cert.Pre_inputs_ok.Facts),
    quiescent_Kernel (hKernel := hKernel) (hPre_sizes_ok := hPre_sizes_ok)
    ∧ quiescent_KernelIdeal (hKernelIdeal := hKernelIdeal) (hPre_sizes_ok := hPre_sizes_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4096x3072 : Shape := ⟨2, ![4096, 3072]⟩
abbrev S16 : Shape := ⟨1, ![16]⟩
abbrev S16x1536x1408 : Shape := ⟨3, ![16, 1536, 1408]⟩
abbrev S16x24x1408 : Shape := ⟨3, ![16, 24, 1408]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S4096x3072 .bf16) (main_arg1 : IVec S16 32) (main_arg2 : IVec S16x1536x1408 8) (main_arg3 : FVec F S16x24x1408 .f32) : IVec S4096x3072 1 :=
  let main_v0 : FVec F S4096x3072 .f32 := (extf .f32 · bitsLt_bf16_f32) main_arg0
  let main_v1 : FVec F S4096x3072 .f32 := Host.absf main_v0
  let main_cst : FVec F S_ .f32 := constant S_ .f32 0x7F7F0000#32
  let main_v2 : FVec F S4096x3072 .f32 := broadcastInDim S4096x3072 ![] bcast_S_S4096x3072 main_cst
  let main_v3 : IVec S4096x3072 1 := cmpf .ole main_v1 main_v2
  let main_c : IVec S_ 32 := constantI S_ 32 0#32
  let main_v4 : IVec S16 32 := broadcastInDim S16 ![] bcast_S_S16 main_c
  let main_v5 : IVec S16 1 := cmpi .sge main_arg1 main_v4
  let main_c_0 : IVec S_ 32 := constantI S_ 32 4096#32
  let main_v6 : IVec S16 32 := broadcastInDim S16 ![] bcast_S_S16 main_c_0
  let main_v7 : IVec S16 1 := cmpi .sle main_arg1 main_v6
  let main_v8 : IVec S16 1 := andi main_v5 main_v7
  let main_c_1 : IVec S_ 1 := constantI S_ 1 1#1
  let main_v9 : IVec S_ 1 := (fun x v => Host.reduce IntOp.andi x v reducesTo_S16_S_d0 h_S_) main_v8 main_c_1
  let main_c_2 : IVec S_ 32 := constantI S_ 32 0#32
  let main_v10 : IVec S_ 32 := (fun x v => Host.reduce IntOp.addi x v reducesTo_S16_S_d0 h_S_) main_arg1 main_c_2
  let main_c_3 : IVec S_ 32 := constantI S_ 32 4096#32
  let main_v11 : IVec S_ 1 := cmpi .eq main_v10 main_c_3
  let main_v12 : IVec S_ 1 := andi main_v9 main_v11
  let main_v13 : IVec S4096x3072 1 := broadcastInDim S4096x3072 ![] bcast_S_S4096x3072 main_v12
  let main_v14 : IVec S4096x3072 1 := andi main_v3 main_v13
  main_v14
-- ==== Pre_sizes_ok.lean ====
abbrev S4096x3072 : Shape := ⟨2, ![4096, 3072]⟩
abbrev S16 : Shape := ⟨1, ![16]⟩
abbrev S16x1536x1408 : Shape := ⟨3, ![16, 1536, 1408]⟩
abbrev S16x24x1408 : Shape := ⟨3, ![16, 24, 1408]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S4096x3072 .bf16) (main_arg1 : IVec S16 32) (main_arg2 : IVec S16x1536x1408 8) (main_arg3 : FVec F S16x24x1408 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 4096#32
  let main_v7 : IVec S_ 1 := cmpi .eq main_v6 main_c_3
  let main_v8 : IVec S_ 1 := andi main_v5 main_v7
  main_v8
-- ==== Kernel.lean ====
abbrev S4096x3072 : Shape := ⟨2, ![4096, 3072]⟩
abbrev S16 : Shape := ⟨1, ![16]⟩
abbrev S16x1536x1408 : Shape := ⟨3, ![16, 1536, 1408]⟩
abbrev S16x24x1408 : Shape := ⟨3, ![16, 24, 1408]⟩
abbrev S_ : Shape := ⟨0, ![]⟩
abbrev S1 : Shape := ⟨1, ![1]⟩
abbrev S31 : Shape := ⟨1, ![31]⟩
abbrev S1x16 : Shape := ⟨2, ![1, 16]⟩
abbrev S31x1 : Shape := ⟨2, ![31, 1]⟩
abbrev S31x16 : Shape := ⟨2, ![31, 16]⟩
abbrev S4096x1408 : Shape := ⟨2, ![4096, 1408]⟩
abbrev S256x3072 : Shape := ⟨2, ![256, 3072]⟩
abbrev S1x1536x1408 : Shape := ⟨3, ![1, 1536, 1408]⟩
abbrev S1x24x1408 : Shape := ⟨3, ![1, 24, 1408]⟩
abbrev S256x1408 : Shape := ⟨2, ![256, 1408]⟩
abbrev S3072x1408 : Shape := ⟨2, ![3072, 1408]⟩
abbrev S256x1 : Shape := ⟨2, ![256, 1]⟩
abbrev S1x64x1408 : Shape := ⟨3, ![1, 64, 1408]⟩
abbrev S64x1408 : Shape := ⟨2, ![64, 1408]⟩
abbrev S64x1x1408 : Shape := ⟨3, ![64, 1, 1408]⟩
abbrev S64x2x1408 : Shape := ⟨3, ![64, 2, 1408]⟩
abbrev S128x1408 : Shape := ⟨2, ![128, 1408]⟩
abbrev S1x1x1408 : Shape := ⟨3, ![1, 1, 1408]⟩
abbrev S1x1408 : Shape := ⟨2, ![1, 1408]⟩
abbrev S256 : Shape := ⟨1, ![256]⟩

abbrev nBuf : Space → Nat
  | .hbm => 102
  | .vmem => 11
  | .smem => 5
  | _ => 0

abbrev bufTy : (tb : Table) → Fin (tcTables nBuf tb) → BufTy
  | .hbm, ⟨0, _⟩ => ⟨S4096x3072, .bf16⟩
  | .hbm, ⟨1, _⟩ => ⟨S16, .i32⟩
  | .hbm, ⟨2, _⟩ => ⟨S16x1536x1408, .i8⟩
  | .hbm, ⟨3, _⟩ => ⟨S16x24x1408, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S16, .i32⟩
  | .hbm, ⟨35, _⟩ => ⟨S_, .i32⟩
  | .hbm, ⟨36, _⟩ => ⟨S16, .i32⟩
  | .hbm, ⟨37, _⟩ => ⟨S16, .i1⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S_, .i32⟩
  | .hbm, ⟨57, _⟩ => ⟨S_, .i32⟩
  | .hbm, ⟨58, _⟩ => ⟨S16, .i32⟩
  | .hbm, ⟨59, _⟩ => ⟨S31, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S31, .i32⟩
  | .hbm, ⟨64, _⟩ => ⟨S31, .i32⟩
  | .hbm, ⟨65, _⟩ => ⟨S1x16, .i32⟩
  | .hbm, ⟨66, _⟩ => ⟨S31x1, .i32⟩
  | .hbm, ⟨67, _⟩ => ⟨S31x16, .i32⟩
  | .hbm, ⟨68, _⟩ => ⟨S31x16, .i32⟩
  | .hbm, ⟨69, _⟩ => ⟨S31x16, .i1⟩
  | .hbm, ⟨70, _⟩ => ⟨S31x16, .i32⟩
  | .hbm, ⟨71, _⟩ => ⟨S_, .i32⟩
  | .hbm, ⟨72, _⟩ => ⟨S_, .i32⟩
  | .hbm, ⟨73, _⟩ => ⟨S31, .i32⟩
  | .hbm, ⟨74, _⟩ => ⟨S31, .i1⟩
  | .hbm, ⟨75, _⟩ => ⟨S_, .i32⟩
  | .hbm, ⟨76, _⟩ => ⟨S31, .i32⟩
  | .hbm, ⟨77, _⟩ => ⟨S31, .i32⟩
  | .hbm, ⟨78, _⟩ => ⟨S31, .i32⟩
  | .hbm, ⟨79, _⟩ => ⟨S31x1, .i32⟩
  | .hbm, ⟨80, _⟩ => ⟨S31, .i32⟩
  | .hbm, ⟨81, _⟩ => ⟨S31, .i32⟩
  | .hbm, ⟨82, _⟩ => ⟨S_, .i32⟩
  | .hbm, ⟨83, _⟩ => ⟨S31, .i32⟩
  | .hbm, ⟨84, _⟩ => ⟨S31, .i1⟩
  | .hbm, ⟨85, _⟩ => ⟨S_, .i32⟩
  | .hbm, ⟨86, _⟩ => ⟨S31, .i32⟩
  | .hbm, ⟨87, _⟩ => ⟨S31, .i32⟩
  | .hbm, ⟨88, _⟩ => ⟨S31, .i32⟩
  | .hbm, ⟨89, _⟩ => ⟨S31x1, .i32⟩
  | .hbm, ⟨90, _⟩ => ⟨S31, .i32⟩
  | .hbm, ⟨91, _⟩ => ⟨S_, .i32⟩
  | .hbm, ⟨92, _⟩ => ⟨S31, .i32⟩
  | .hbm, ⟨93, _⟩ => ⟨S31, .i1⟩
  | .hbm, ⟨94, _⟩ => ⟨S_, .i32⟩
  | .hbm, ⟨95, _⟩ => ⟨S31, .i32⟩
  | .hbm, ⟨96, _⟩ => ⟨S31, .i32⟩
  | .hbm, ⟨97, _⟩ => ⟨S31, .i32⟩
  | .hbm, ⟨98, _⟩ => ⟨S31x1, .i32⟩
  | .hbm, ⟨99, _⟩ => ⟨S31, .i32⟩
  | .hbm, ⟨100, _⟩ => ⟨S31, .i32⟩
  | .hbm, ⟨101, _⟩ => ⟨S4096x1408, .bf16⟩
  | .local _ .vmem, ⟨0, _⟩ => ⟨S256x3072, .bf16⟩
  | .local _ .vmem, ⟨1, _⟩ => ⟨S256x3072, .bf16⟩
  | .local _ .vmem, ⟨2, _⟩ => ⟨S1x1536x1408, .i8⟩
  | .local _ .vmem, ⟨3, _⟩ => ⟨S1x1536x1408, .i8⟩
  | .local _ .vmem, ⟨4, _⟩ => ⟨S1x24x1408, .f32⟩
  | .local _ .vmem, ⟨5, _⟩ => ⟨S1x24x1408, .f32⟩
  | .local _ .vmem, ⟨6, _⟩ => ⟨S256x1408, .bf16⟩
  | .local _ .vmem, ⟨7, _⟩ => ⟨S256x1408, .bf16⟩
  | .local _ .vmem, ⟨8, _⟩ => ⟨S3072x1408, .bf16⟩
  | .local _ .vmem, ⟨9, _⟩ => ⟨S256x3072, .bf16⟩
  | .local _ .vmem, ⟨10, _⟩ => ⟨S256x1, .f32⟩
  | .local _ .smem, ⟨0, _⟩ => ⟨S31, .i32⟩
  | .local _ .smem, ⟨1, _⟩ => ⟨S31, .i32⟩
  | .local _ .smem, ⟨2, _⟩ => ⟨S16, .i32⟩
  | .local _ .smem, ⟨3, _⟩ => ⟨S16, .i32⟩
  | .local _ .smem, ⟨4, _⟩ => ⟨S1, .i32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_c : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_c : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_0 : Ref sig .tc := ⟨.hbm, 20, rfl⟩
abbrev main_call1_v12 : Ref sig .tc := ⟨.hbm, 21, rfl⟩
abbrev main_call1_v13 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v7 : Ref sig .tc := ⟨.hbm, 47, rfl⟩
abbrev main_v8 : Ref sig .tc := ⟨.hbm, 48, rfl⟩
abbrev main_c_3 : Ref sig .tc := ⟨.hbm, 49, rfl⟩
abbrev main_v9 : Ref sig .tc := ⟨.hbm, 50, rfl⟩
abbrev main_v10 : Ref sig .tc := ⟨.hbm, 51, rfl⟩
abbrev main_c_4 : Ref sig .tc := ⟨.hbm, 52, rfl⟩
abbrev main_call3_v0 : Ref sig .tc := ⟨.hbm, 53, rfl⟩
abbrev main_call3_v1 : Ref sig .tc := ⟨.hbm, 54, rfl⟩
abbrev main_v11 : Ref sig .tc := ⟨.hbm, 55, rfl⟩
abbrev main_call4_call0_c : Ref sig .tc := ⟨.hbm, 56, rfl⟩
abbrev main_call4_call0_v0 : Ref sig .tc := ⟨.hbm, 57, rfl⟩
abbrev main_v12 : Ref sig .tc := ⟨.hbm, 58, rfl⟩
abbrev main_v14 : Ref sig .tc := ⟨.hbm, 59, rfl⟩
abbrev main_v15 : Ref sig .tc := ⟨.hbm, 60, rfl⟩
abbrev main_c_5 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_6 : Ref sig .tc := ⟨.hbm, 71, rfl⟩
abbrev main_c_7 : Ref sig .tc := ⟨.hbm, 72, rfl⟩
abbrev main_v26 : Ref sig .tc := ⟨.hbm, 73, rfl⟩
abbrev main_v27 : Ref sig .tc := ⟨.hbm, 74, rfl⟩
abbrev main_c_8 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c_9 : Ref sig .tc := ⟨.hbm, 82, rfl⟩
abbrev main_v34 : Ref sig .tc := ⟨.hbm, 83, rfl⟩
abbrev main_v35 : Ref sig .tc := ⟨.hbm, 84, rfl⟩
abbrev main_c_10 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_c_11 : Ref sig .tc := ⟨.hbm, 91, rfl⟩
abbrev main_v41 : Ref sig .tc := ⟨.hbm, 92, rfl⟩
abbrev main_v42 : Ref sig .tc := ⟨.hbm, 93, rfl⟩
abbrev main_c_12 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v50 : Ref sig .tc := ⟨.hbm, 101, rfl⟩
abbrev main_v25 : Ref sig .tc := ⟨.smem, 0, rfl⟩
abbrev main_v49 : Ref sig .tc := ⟨.smem, 1, rfl⟩
abbrev main_v1 : Ref sig .tc := ⟨.smem, 2, rfl⟩
abbrev main_v0 : Ref sig .tc := ⟨.smem, 3, rfl⟩
abbrev main_v13 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![31], ![false]⟩

abbrev pre0 : Pipeline.Prefetch sig := ⟨5, ![main_v25.idx, main_v49.idx, main_v1.idx, main_v0.idx, main_v13.idx], fun | 0 => main_v25.names | 1 => main_v49.names | 2 => main_v1.names | 3 => main_v0.names | 4 => main_v13.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32 : BitVec 32 := 0#32
  let v5 : BitVec 32 := Scalar.maxsi v4 c0_i32
  let v9 : Index := Scalar.indexCast v5
  ![v9.toNat]
@[reducible] def k0_t1_loop : Scf.Loop 32 :=
  let c0_i32_5 : BitVec 32 := 0#32
  let c24_i32 : BitVec 32 := 24#32
  let v26 : BitVec 32 := Scalar.addi c0_i32_5 c24_i32
  let c1_i32_6 : BitVec 32 := 1#32
  ⟨c0_i32_5, v26, c1_i32_6⟩
def k0_off3 (k0_t1 : Fin k0_t1_loop.trips) : Fin 3 → Nat :=
  let c0_8 : Index := 0#32
  let c0_i32_5 : BitVec 32 := 0#32
  let c1_i32_6 : BitVec 32 := 1#32
  let arg13 : BitVec 32 := Scf.iv c0_i32_5 c1_i32_6 k0_t1
  let c64_i32 : BitVec 32 := 64#32
  let v27 : BitVec 32 := Scalar.muli arg13 c64_i32
  let v28 : Index := Scalar.indexCast v27
  let c0_9 : Index := 0#32
  ![0, v28.toNat, 0]
def k0_off4 (k0_t1 : Fin k0_t1_loop.trips) : Fin 3 → Nat :=
  let c0_13 : Index := 0#32
  let c0_i32_5 : BitVec 32 := 0#32
  let c1_i32_6 : BitVec 32 := 1#32
  let arg13 : BitVec 32 := Scf.iv c0_i32_5 c1_i32_6 k0_t1
  let v45 : Index := Scalar.indexCast arg13
  let c0_14 : Index := 0#32
  ![0, v45.toNat, 0]
def k0_off5 (k0_t1 : Fin k0_t1_loop.trips) : Fin 2 → Nat :=
  let c0_i32_5 : BitVec 32 := 0#32
  let c1_i32_6 : BitVec 32 := 1#32
  let arg13 : BitVec 32 := Scf.iv c0_i32_5 c1_i32_6 k0_t1
  let c128_i32 : BitVec 32 := 128#32
  let v51 : BitVec 32 := Scalar.muli arg13 c128_i32
  let v52 : Index := Scalar.indexCast v51
  let c0_15 : Index := 0#32
  ![v52.toNat, 0]
def k0_off6 (v1 : BitVec 32) : Fin 1 → Nat :=
  let v37 : Index := Scalar.indexCast v1
  ![v37.toNat]
def k0_cond3 (i : grid0.Coords) (v6 : BitVec 32) : BitVec 1 :=
  let arg0 : BitVec 32 := BitVec.ofNat 32 (i 0).val
  let v7 : BitVec 1 := Scalar.cmpi .slt arg0 v6
  let v24 : BitVec 32 := Scalar.extui v7
  let c0_i32_4 : BitVec 32 := 0#32
  let v25 : BitVec 1 := Scalar.cmpi .ne v24 c0_i32_4
  v25

def k0_chk1 (i : grid0.Coords) (v1 : BitVec 32) (v6 : BitVec 32) : Prop :=
  (∀ (k0_h3 : k0_cond3 i v6 = 1#1), ∀ a, (k0_off6 v1) a + S1.size a ≤ S16.size a)
theorem k0_off6_inb : ∀ (i : grid0.Coords) (v1 : BitVec 32) (v6 : BitVec 32) (k0_hw1 : k0_chk1 i v1 v6), ∀ (k0_h3 : k0_cond3 i v6 = 1#1), ∀ a, (k0_off6 v1) a + S1.size a ≤ S16.size a := fun i v1 v6 k0_hw1 k0_h3 => k0_hw1 k0_h3

def cc0_transform_0 (k0_off1_inb : ∀ i : grid0.Coords, ∀ a, (k0_off1 i) a + S1.size a ≤ S31.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S31) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S31) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S31) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S31.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S31) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x1408 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x3072 : Shape := ⟨2, ![4096, 3072]⟩
abbrev S16 : Shape := ⟨1, ![16]⟩
abbrev S16x1536x1408 : Shape := ⟨3, ![16, 1536, 1408]⟩
abbrev S16x24x1408 : Shape := ⟨3, ![16, 24, 1408]⟩
abbrev S4096x1 : Shape := ⟨2, ![4096, 1]⟩
abbrev S4096 : Shape := ⟨1, ![4096]⟩
abbrev S16x24x64x1408 : Shape := ⟨4, ![16, 24, 64, 1408]⟩
abbrev S16x24x1x1408 : Shape := ⟨4, ![16, 24, 1, 1408]⟩
abbrev S16x1536x1x1408 : Shape := ⟨4, ![16, 1536, 1, 1408]⟩
abbrev S16x1536x2x1408 : Shape := ⟨4, ![16, 1536, 2, 1408]⟩
abbrev S16x3072x1408 : Shape := ⟨3, ![16, 3072, 1408]⟩
abbrev S_ : Shape := ⟨0, ![]⟩
abbrev S1x16 : Shape := ⟨2, ![1, 16]⟩
abbrev S4096x16 : Shape := ⟨2, ![4096, 16]⟩
abbrev S4096x16x1408 : Shape := ⟨3, ![4096, 16, 1408]⟩
abbrev S4096x16x1 : Shape := ⟨3, ![4096, 16, 1]⟩
abbrev S4096x1408 : Shape := ⟨2, ![4096, 1408]⟩

abbrev nBuf : Space → Nat
  | .hbm => 51
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S16, .i32⟩
  | .hbm, ⟨2, _⟩ => ⟨S16x1536x1408, .i8⟩
  | .hbm, ⟨3, _⟩ => ⟨S16x24x1408, .f32⟩
  | .hbm, ⟨4, _⟩ => ⟨S4096x3072, .bf16⟩
  | .hbm, ⟨5, _⟩ => ⟨S4096x1, .f32⟩
  | .hbm, ⟨6, _⟩ => ⟨S16x1536x1408, .bf16⟩
  | .hbm, ⟨7, _⟩ => ⟨S16x1536x1408, .bf16⟩
  | .hbm, ⟨8, _⟩ => ⟨S16x24x64x1408, .bf16⟩
  | .hbm, ⟨9, _⟩ => ⟨S16x24x1408, .bf16⟩
  | .hbm, ⟨10, _⟩ => ⟨S16x24x1x1408, .bf16⟩
  | .hbm, ⟨11, _⟩ => ⟨S16x24x64x1408, .bf16⟩
  | .hbm, ⟨12, _⟩ => ⟨S16x24x64x1408, .bf16⟩
  | .hbm, ⟨13, _⟩ => ⟨S16x1536x1408, .bf16⟩
  | .hbm, ⟨14, _⟩ => ⟨S16x24x64x1408, .bf16⟩
  | .hbm, ⟨15, _⟩ => ⟨S16x24x1408, .bf16⟩
  | .hbm, ⟨16, _⟩ => ⟨S16x24x1x1408, .bf16⟩
  | .hbm, ⟨17, _⟩ => ⟨S16x24x64x1408, .bf16⟩
  | .hbm, ⟨18, _⟩ => ⟨S16x24x64x1408, .bf16⟩
  | .hbm, ⟨19, _⟩ => ⟨S16x1536x1408, .bf16⟩
  | .hbm, ⟨20, _⟩ => ⟨S16x1536x1x1408, .bf16⟩
  | .hbm, ⟨21, _⟩ => ⟨S16x1536x1x1408, .bf16⟩
  | .hbm, ⟨22, _⟩ => ⟨S16x1536x2x1408, .bf16⟩
  | .hbm, ⟨23, _⟩ => ⟨S16x3072x1408, .bf16⟩
  | .hbm, ⟨24, _⟩ => ⟨S_, .i32⟩
  | .hbm, ⟨25, _⟩ => ⟨S_, .i32⟩
  | .hbm, ⟨26, _⟩ => ⟨S16, .i32⟩
  | .hbm, ⟨27, _⟩ => ⟨S4096, .i32⟩
  | .hbm, ⟨28, _⟩ => ⟨S4096x1, .i32⟩
  | .hbm, ⟨29, _⟩ => ⟨S16, .i32⟩
  | .hbm, ⟨30, _⟩ => ⟨S1x16, .i32⟩
  | .hbm, ⟨31, _⟩ => ⟨S4096x16, .i32⟩
  | .hbm, ⟨32, _⟩ => ⟨S4096x16, .i32⟩
  | .hbm, ⟨33, _⟩ => ⟨S4096x16, .i1⟩
  | .hbm, ⟨34, _⟩ => ⟨S1x16, .i32⟩
  | .hbm, ⟨35, _⟩ => ⟨S4096x16, .i32⟩
  | .hbm, ⟨36, _⟩ => ⟨S4096x16, .i32⟩
  | .hbm, ⟨37, _⟩ => ⟨S4096x16, .i1⟩
  | .hbm, ⟨38, _⟩ => ⟨S4096x16, .i1⟩
  | .hbm, ⟨39, _⟩ => ⟨S4096x16x1408, .f32⟩
  | .hbm, ⟨40, _⟩ => ⟨S4096x16x1, .i1⟩
  | .hbm, ⟨41, _⟩ => ⟨S_, .f32⟩
  | .hbm, ⟨42, _⟩ => ⟨S_, .f32⟩
  | .hbm, ⟨43, _⟩ => ⟨S4096x16x1408, .i1⟩
  | .hbm, ⟨44, _⟩ => ⟨S4096x16x1408, .f32⟩
  | .hbm, ⟨45, _⟩ => ⟨S4096x16x1408, .f32⟩
  | .hbm, ⟨46, _⟩ => ⟨S_, .f32⟩
  | .hbm, ⟨47, _⟩ => ⟨S4096x1408, .f32⟩
  | .hbm, ⟨48, _⟩ => ⟨S4096x1408, .f32⟩
  | .hbm, ⟨49, _⟩ => ⟨S4096x1408, .f32⟩
  | .hbm, ⟨50, _⟩ => ⟨S4096x1408, .bf16⟩
  | .local _ .vmem, ⟨0, _⟩ => ⟨S4096x3072, .bf16⟩
  | .local _ .vmem, ⟨1, _⟩ => ⟨S16x1536x1408, .i8⟩
  | .local _ .vmem, ⟨2, _⟩ => ⟨S4096x3072, .bf16⟩
  | .local _ .vmem, ⟨3, _⟩ => ⟨S4096x1, .f32⟩
  | .local _ .vmem, ⟨4, _⟩ => ⟨S16x1536x1408, .bf16⟩
  | .local _ .vmem, ⟨5, _⟩ => ⟨S16x1536x1408, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_call0_c : Ref sig .tc := ⟨.hbm, 24, rfl⟩
abbrev main_call0_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536x1408 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1536x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1536x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Routing.Ops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ (UR sig nD τ) ℕ

/-! ## What one grid point leaves -/

/-- The loop over the 128-row groups makes 24 trips. -/
theorem trips_eq : k0_t1_loop.trips = 24 := by decide +kernel

/-- Row `r`, column `b` of group `k` of the unpacked weights of one expert. -/
def deqAt (W : Vec F S1x1536x1408 .i8) (S : Vec F S1x24x1408 .f32) (k : Fin k0_t1_loop.trips) (r : Fin 128) (b : Fin 1408) : Elt F .bf16 :=
  k0_pay1 (F := F) (View.ld W (Rect.unit (s := S1x1536x1408) (k0_off3 k) S1x64x1408.size (k0_off3_inb k)))
    (View.ld S (Rect.unit (s := S1x24x1408) (k0_off4 k) S1x1x1408.size (k0_off4_inb k))) (ix2 r b)

/-- The unpacked weights of one expert: row `y` lies in group `y / 128`, whose 64 packed rows and one row of scales
    give the group's 128 rows. -/
def deq (W : Vec F S1x1536x1408 .i8) (S : Vec F S1x24x1408 .f32) : Vec F S3072x1408 .bf16 := fun y =>
  deqAt W S ⟨(y 0).val / 128, by rw [trips_eq]; have := (y 0).isLt; change (y 0).val < 3072 at this; omega⟩
    ⟨(y 0).val % 128, Nat.mod_lt _ (by decide)⟩ (y 1)

/-- The unpacked weights at row `r` of group `k`. -/
theorem deq_at (W : Vec F S1x1536x1408 .i8) (S : Vec F S1x24x1408 .f32) (k : Fin k0_t1_loop.trips) (r : Fin 128) (b : Fin 1408)
    (y : S3072x1408.Idx) (h0 : (y 0).val = 128 * k.val + r.val) (h1 : (y 1).val = b.val) : deq W S y = deqAt W S k r b := by
  have hr := r.isLt
  have e1 : (⟨(y 0).val / 128, by rw [trips_eq]; have := (y 0).isLt; change (y 0).val < 3072 at this; omega⟩ : Fin k0_t1_loop.trips) = k :=
    Fin.ext (by show (y 0).val / 128 = k.val; omega)
  have e2 : (⟨(y 0).val % 128, Nat.mod_lt _ (by decide)⟩ : Fin 128) = r := Fin.ext (by show (y 0).val % 128 = r.val; omega)
  have e3 : (y 1 : Fin 1408) = b := Fin.ext h1
  unfold deq
  rw [e1, e2]
  exact congrArg (deqAt W S k r) e3

/-- The exponents the quantiser finds for a block of rows. -/
def expo (X : Vec F S256x3072 .bf16) : IVec S256x1 32 :=
  k0_pay10 (k0_pay6 X) (k0_pay7 X) (k0_pay8 X) (k0_pay9 X)
/-- The quantised rows, and -/
def qx (X : Vec F S256x3072 .bf16) : Vec F S256x3072 .bf16 := k0_pay2 (k0_pay5 X) (expo X)
/-- their scales. -/
def qs (X : Vec F S256x3072 .bf16) : Vec F S256x1 .f32 := k0_pay3 (F := F) (expo X) k0_pay11

/-- Whether a grid point refreshes a scratch: it is active, and the point is the first one or its table word differs
    from the previous point's. -/
def fires (i : grid0.Coords) (n p w : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne p w))) : BitVec 32) 0#32

/-- One trip stores one piece: the group's unpacked rows at the group's place. -/
theorem trip_pieces (c : Dev nD) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f7 : BufTy.Contents (Elt F) arg7.view.ty) (f8 : BufTy.Contents (Elt F) arg8.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 f7 f8 k
      = [⟨Rect.unit (s := S3072x1408) (k0_off5 k) S128x1408.size (k0_off5_inb k),
          k0_pay1 (F := F) (arg7.view.readAt (Elt F) (Rect.unit (s := S1x1536x1408) (k0_off3 k) S1x64x1408.size (k0_off3_inb k)).toLoadRect f7)
            (arg8.view.readAt (Elt F) (Rect.unit (s := S1x24x1408) (k0_off4 k) S1x1x1408.size (k0_off4_inb k)).toLoadRect f8)⟩] := by
  unfold tripL_k0_t1 trip_k0_t1
  rfl

/-- The pieces of the first `n` trips are rows of `deq`, and they hold the first `128 n` rows. -/
theorem pieces (c : Dev nD) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f7 : BufTy.Contents (Elt F) arg7.view.ty) (f8 : BufTy.Contents (Elt F) arg8.view.ty) (n : ℕ) (hn : n ≤ k0_t1_loop.trips) :
    (∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 f7 f8 n, ∀ x : p.1.shape.Idx,
        p.2 x = deq (F := F) (arg7.view.read (Elt F) f7) (arg8.view.read (Elt F) f8) (p.1.emb x))
      ∧ ∀ y : S3072x1408.Idx, (y 0).val < 128 * n → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 f7 f8 n, y ∈ p.1.set := by
  induction n with
  | zero => exact ⟨fun p hp => absurd hp (by unfold pb_k0_t1; exact List.not_mem_nil), fun y hy => by omega⟩
  | succ n ih =>
    obtain ⟨ih1, ih2⟩ := ih (by omega)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 f7 f8 ⟨n, by omega⟩
    have hn24 : n < 24 := by have := trips_eq; omega
    dsimp only at e
    rw [e, trip_pieces]
    constructor
    · intro p hp x
      rcases List.mem_append.mp hp with hp | hp
      · obtain rfl := List.mem_singleton.mp hp
        obtain ⟨a, b, rfl⟩ : ∃ (a : Fin 128) (b : Fin 1408), x = ix2 a b := ⟨x 0, x 1, by funext t; fin_cases t <;> rfl⟩
        have h0 : (((Rect.unit (s := S3072x1408) (k0_off5 ⟨n, by omega⟩) S128x1408.size (k0_off5_inb ⟨n, by omega⟩)).emb (ix2 a b)) 0).val = 128 * n + a.val := by
          show (k0_off5 ⟨n, by omega⟩) 0 + 1 * a.val = _
          rw [k0_off5_eq]; simp
        have h1 : (((Rect.unit (s := S3072x1408) (k0_off5 ⟨n, by omega⟩) S128x1408.size (k0_off5_inb ⟨n, by omega⟩)).emb (ix2 a b)) 1).val = b.val := by
          show (k0_off5 ⟨n, by omega⟩) 1 + 1 * b.val = _
          rw [k0_off5_eq]; simp
        exact (deq_at (F := F) _ _ ⟨n, by omega⟩ a b _ h0 h1).symm
      · exact ih1 p hp x
    · intro y hy
      by_cases hlt : (y 0).val < 128 * n
      · obtain ⟨p, hp, hm⟩ := ih2 y hlt
        exact ⟨p, List.mem_append.mpr (.inr hp), hm⟩
      · refine ⟨_, List.mem_append.mpr (.inl (List.mem_singleton.mpr rfl)), ?_⟩
        refine (Rect.unit (s := S3072x1408) (k0_off5 ⟨n, by omega⟩) S128x1408.size (k0_off5_inb ⟨n, by omega⟩)).mem_set.mpr fun a => ?_
        fin_cases a
        · refine ⟨(y 0).val - 128 * n, ?_, ?_⟩
          · show _ < 128; omega
          · show (y 0).val = (k0_off5 ⟨n, by omega⟩) 0 + 1 * _
            rw [k0_off5_eq]; simp; omega
        · refine ⟨(y 1).val, (y 1).isLt, ?_⟩
          show (y 1).val = (k0_off5 ⟨n, by omega⟩) 1 + 1 * _
          rw [k0_off5_eq]; simp

/-- What the loop leaves in the weight scratch. -/
theorem read_loop (c : Dev nD) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f7 : BufTy.Contents (Elt F) arg7.view.ty) (f8 : BufTy.Contents (Elt F) arg8.view.ty) (f10 : BufTy.Contents (Elt F) arg10.view.ty) :
    arg10.view.read (Elt F) (arg10.view.writes (Elt F) f10 (pb_k0_t1 (F := F) Variants.none c none i arg1 harg1 arg2 harg2 arg3 harg3 arg4 harg4 arg5 harg5 arg6 harg6 arg7 harg7 arg8 harg8 arg9 harg9 arg10 harg10 arg11 harg11 arg12 harg12 f7 f8
        (Scf.trips k0_t1_loop.lb k0_t1_loop.ub k0_t1_loop.st)))
      = deq (F := F) (arg7.view.read (Elt F) f7) (arg8.view.read (Elt F) f8) := by
  have h := pieces (F := F) c i arg1 harg1 arg2 harg2 arg3 harg3 arg4 harg4 arg5 harg5 arg6 harg6 arg7 harg7 arg8 harg8 arg9 harg9 arg10 harg10 arg11 harg11 arg12 harg12 f7 f8 k0_t1_loop.trips le_rfl
  funext y
  exact View.read_writes_apply_of_pieces _ _ _ _ h.1 y (h.2 y (by
    have := (y 0).isLt; change (y 0).val < 3072 at this
    rw [trips_eq]; omega))

/-- A buffer kept or written as a condition says reads as that condition says. -/
theorem read_dite {sig : RefSig} {κ : Kind} {sp : Space} {s : Shape} {e : EltTy} (v : View sig κ sp s e) {C D : Prop} [Decidable C] [Decidable D] (h : C ↔ D)
    (A : C → v.ty.Contents (Elt F)) (f : v.ty.Contents (Elt F)) (X : Vec F s e) (hA : ∀ hc, v.read (Elt F) (A hc) = X) :
    v.read (Elt F) (if hc : C then A hc else f) = if D then X else v.read (Elt F) f := by
  by_cases hC : C
  · rw [dif_pos hC, if_pos (h.mp hC), hA]
  · rw [dif_neg hC, if_neg fun hD => hC (h.mpr hD)]

/-- The block's payload is a function of the words and the blocks it is made from. -/
theorem pay4_congr (i : grid0.Coords) {t t' p p' lo lo' hi hi' : BitVec 32} {a a' : Vec F S256x3072 .bf16} {b b' : Vec F S3072x1408 .bf16}
    {d d' : Vec F S256x1 .f32} {o o' : Vec F S256x1408 .bf16} (ht : t = t') (hp : p = p') (ha : a = a') (hb : b = b') (hd : d = d')
    (hlo : lo = lo') (hhi : hi = hi') (ho : o = o') : k0_pay4 i t p a b d lo hi o = k0_pay4 i t' p' a' b' d' lo' hi' o' := by
  subst ht hp ha hb hd hlo hhi ho; rfl

/-- The quantiser's exponents of a block are those of an equal block. -/
theorem X6_congr (X Y : Vec F S256x3072 .bf16) (h : X = Y) : expo X = expo Y := by rw [h]

set_option maxHeartbeats 4000000 in
/-- The kernel's body at a grid point: the tables and the inputs stand, a scratch whose table word is new is refilled,
    and the output's block is rewritten where the point is active. -/
theorem run (c : Dev nD) (E : Set ℕ) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty)
    (X6 : Vec F S256x3072 .bf16) (X7 : Vec F S1x1536x1408 .i8) (X8 : Vec F S1x24x1408 .f32) (X9 : Vec F S256x1408 .bf16)
    (X10 : Vec F S3072x1408 .bf16) (X11 : Vec F S256x3072 .bf16) (X12 : Vec F S256x1 .f32)
    (q : PosShare TreeShare) (g pg t pt n lo hi : BitVec 32)
    (hg : arg1.view.readAt (Elt F) (Rect.unit (s := S31) (k0_off1 i) S1.size (k0_off1_inb i)).toLoadRect f1 (Shape.Idx.first (Nat.lt_of_lt_of_eq Nat.one_pos numel1_S1.symm)) = g)
    (hpg : arg1.view.readAt (Elt F) (Rect.unit (s := S31) (k0_off2 i) S1.size (k0_off2_inb i)).toLoadRect f1 (Shape.Idx.first (Nat.lt_of_lt_of_eq Nat.one_pos numel1_S1.symm)) = pg)
    (ht : arg2.view.readAt (Elt F) (Rect.unit (s := S31) (k0_off1 i) S1.size (k0_off1_inb i)).toLoadRect f2 (Shape.Idx.first (Nat.lt_of_lt_of_eq Nat.one_pos numel1_S1.symm)) = t)
    (hpt : arg2.view.readAt (Elt F) (Rect.unit (s := S31) (k0_off2 i) S1.size (k0_off2_inb i)).toLoadRect f2 (Shape.Idx.first (Nat.lt_of_lt_of_eq Nat.one_pos numel1_S1.symm)) = pt)
    (hn : arg5.view.readAt (Elt F) (Rect.unit (s := S1) ![0] S1.size inb_S1_S1_0).toLoadRect f5 (Shape.Idx.first (Nat.lt_of_lt_of_eq Nat.one_pos numel1_S1.symm)) = n)
    (hlo : ∀ h, arg3.view.readAt (Elt F) (Rect.unit (s := S16) (k0_off6 g) S1.size h).toLoadRect f3 (Shape.Idx.first (Nat.lt_of_lt_of_eq Nat.one_pos numel1_S1.symm)) = lo)
    (hhi : ∀ h, arg4.view.readAt (Elt F) (Rect.unit (s := S16) (k0_off6 g) S1.size h).toLoadRect f4 (Shape.Idx.first (Nat.lt_of_lt_of_eq Nat.one_pos numel1_S1.symm)) = hi)
    (hchk : k0_chk1 i g n)
    (K : PUnit → sProp 𝕄) :
    iprop((arg1.view.loc (c : Thread nD τ) ↦{q} f1) ∗ (arg2.view.loc (c : Thread nD τ) ↦{q} f2) ∗ (arg3.view.loc (c : Thread nD τ) ↦{q} f3) ∗ (arg4.view.loc (c : Thread nD τ) ↦{q} f4) ∗ (arg5.view.loc (c : Thread nD τ) ↦{q} f5)
      ∗ owns (c : Thread nD τ) arg6 fullShare X6 ∗ owns (c : Thread nD τ) arg7 fullShare X7 ∗ owns (c : Thread nD τ) arg8 fullShare X8 ∗ owns (c : Thread nD τ) arg9 fullShare X9
      ∗ owns (c : Thread nD τ) arg10 fullShare X10 ∗ owns (c : Thread nD τ) arg11 fullShare X11 ∗ owns (c : Thread nD τ) arg12 fullShare X12
      ∗ (iprop((arg1.view.loc (c : Thread nD τ) ↦{q} f1) ∗ (arg2.view.loc (c : Thread nD τ) ↦{q} f2) ∗ (arg3.view.loc (c : Thread nD τ) ↦{q} f3) ∗ (arg4.view.loc (c : Thread nD τ) ↦{q} f4) ∗ (arg5.view.loc (c : Thread nD τ) ↦{q} f5)
        ∗ owns (c : Thread nD τ) arg6 fullShare X6 ∗ owns (c : Thread nD τ) arg7 fullShare X7 ∗ owns (c : Thread nD τ) arg8 fullShare X8
        ∗ owns (c : Thread nD τ) arg9 fullShare (if k0_cond3 i n = 1#1 then
            k0_pay4 i t pt (if fires i n pt t = 1#1 then qx X6 else X11) (if fires i n pg g = 1#1 then deq X7 X8 else X10)
              (if fires i n pt t = 1#1 then qs X6 else X12) lo hi X9 else X9)
        ∗ owns (c : Thread nD τ) arg10 fullShare (if fires i n pg g = 1#1 then deq X7 X8 else X10)
        ∗ owns (c : Thread nD τ) arg11 fullShare (if fires i n pt t = 1#1 then qx X6 else X11)
        ∗ owns (c : Thread nD τ) arg12 fullShare (if fires i n pt t = 1#1 then qs X6 else X12)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton]
  have hchk' : ∀ v1 v6 : BitVec 32, v1 = g → v6 = n → k0_chk1 i v1 v6 := fun _ _ e1 e2 => by rw [e1, e2]; exact hchk
  unfold owns
  iintro ⟨H1, H2, H3, H4, H5, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf6 hf7 hf8 hf9 hf10 hf11 hf12
  sl_exec (disch := ((with_reducible refine hchk' _ _ ?_ ?_); exact hg; exact hn))
  have e1 : run.sl.r i arg1 f1 = g := hg
  have e2 : run.sl.r_1 i arg2 f2 = t := ht
  have e3 : run.sl.r_2 arg5 f5 = n := hn
  have e4 : run.sl.r_3 i arg1 f1 = pg := hpg
  have e5 : run.sl.r_4 i arg2 f2 = pt := hpt
  by_cases hA : Scalar.cmpi CmpIPredicate.ne
                (Scalar.extui
                  (Scalar.andi (Scalar.cmpi CmpIPredicate.slt (BitVec.ofNat 32 ↑(i 0)) (run.sl.r_2 arg5 f5))
                    (Scalar.ori (Scalar.cmpi CmpIPredicate.eq (BitVec.ofNat 32 ↑(i 0)) 0#32)
                      (Scalar.cmpi CmpIPredicate.ne (run.sl.r_3 i arg1 f1) (run.sl.r i arg1 f1)))))
                0#32 = 1#1
  · sl_exec
    sl_step
    subst e1 e2 e3 e4 e5
    have hA' : fires i (run.sl.r_2 arg5 f5) (run.sl.r_3 i arg1 f1) (run.sl.r i arg1 f1) = 1#1 := hA
    iapply Hk
    isplitl [H1]; · iexact H1
    isplitl [H2]; · iexact H2
    isplitl [H3]; · iexact H3
    isplitl [H4]; · iexact H4
    isplitl [H5]; · iexact H5
    isplitl [H6]; · iexists _; isplitr; swap; · iexact H6
                    · ipureintro; rfl
    isplitl [H7]; · iexists _; isplitr; swap; · iexact H7
                    · ipureintro; rfl
    isplitl [H8]; · iexists _; isplitr; swap; · iexact H8
                    · ipureintro; rfl
    isplitl [H9]
    · iexists _; isplitr; swap; · iexact H9
      · ipureintro
        refine read_dite (F := F) arg9.view Iff.rfl _ _ _ fun hc => (View.read_writes_full _ _ _ _ _).trans ?_
        refine pay4_congr (F := F) i rfl rfl ?_ ?_ ?_ (hlo _) (hhi _) (View.readAt_full _ _ _)
        · refine (View.readAt_full _ _ _).trans (read_dite (F := F) arg11.view Iff.rfl _ _ _ fun hc => (View.read_writes_full _ _ _ _ _).trans ?_)
          exact congrArg₂ _ (congrArg _ (View.readAt_full _ _ _)) (X6_congr _ _ (View.readAt_full _ _ _))
        · refine (View.readAt_full _ _ _).trans ?_
          exact (read_loop (F := F) c i arg1 harg1 arg2 harg2 arg3 harg3 arg4 harg4 arg5 harg5 arg6 harg6 arg7 harg7 arg8 harg8 arg9 harg9 arg10 harg10 arg11 harg11 arg12 harg12 f7 f8 f10).trans (if_pos hA').symm
        · refine (View.readAt_full _ _ _).trans (read_dite (F := F) arg12.view Iff.rfl _ _ _ fun hc => (View.read_writes_full _ _ _ _ _).trans ?_)
          exact congrArg (fun z => k0_pay3 (F := F) z k0_pay11) (X6_congr _ _ (View.readAt_full _ _ _))
    isplitl [H10]
    · iexists _; isplitr; swap; · iexact H10
      · ipureintro
        exact (read_loop (F := F) c i arg1 harg1 arg2 harg2 arg3 harg3 arg4 harg4 arg5 harg5 arg6 harg6 arg7 harg7 arg8 harg8 arg9 harg9 arg10 harg10 arg11 harg11 arg12 harg12 f7 f8 f10).trans (if_pos hA').symm
    isplitl [H11]
    · iexists _; isplitr; swap; · iexact H11
      · ipureintro
        refine read_dite (F := F) arg11.view Iff.rfl _ _ _ fun hc => (View.read_writes_full _ _ _ _ _).trans ?_
        exact congrArg₂ _ (congrArg _ (View.readAt_full _ _ _)) (X6_congr _ _ (View.readAt_full _ _ _))
    · iexists _; isplitr; swap; · iexact H12
      · ipureintro
        refine read_dite (F := F) arg12.view Iff.rfl _ _ _ fun hc => (View.read_writes_full _ _ _ _ _).trans ?_
        exact congrArg (fun z => k0_pay3 (F := F) z k0_pay11) (X6_congr _ _ (View.readAt_full _ _ _))
  · sl_exec
    sl_step
    subst e1 e2 e3 e4 e5
    have hA' : ¬ fires i (run.sl.r_2 arg5 f5) (run.sl.r_3 i arg1 f1) (run.sl.r i arg1 f1) = 1#1 := hA
    iapply Hk
    isplitl [H1]; · iexact H1
    isplitl [H2]; · iexact H2
    isplitl [H3]; · iexact H3
    isplitl [H4]; · iexact H4
    isplitl [H5]; · iexact H5
    isplitl [H6]; · iexists _; isplitr; swap; · iexact H6
                    · ipureintro; rfl
    isplitl [H7]; · iexists _; isplitr; swap; · iexact H7
                    · ipureintro; rfl
    isplitl [H8]; · iexists _; isplitr; swap; · iexact H8
                    · ipureintro; rfl
    isplitl [H9]
    · iexists _; isplitr; swap; · iexact H9
      · ipureintro
        refine read_dite (F := F) arg9.view Iff.rfl _ _ _ fun hc => (View.read_writes_full _ _ _ _ _).trans ?_
        refine pay4_congr (F := F) i rfl rfl ?_ ?_ ?_ (hlo _) (hhi _) (View.readAt_full _ _ _)
        · refine (View.readAt_full _ _ _).trans (read_dite (F := F) arg11.view Iff.rfl _ _ _ fun hc => (View.read_writes_full _ _ _ _ _).trans ?_)
          exact congrArg₂ _ (congrArg _ (View.readAt_full _ _ _)) (X6_congr _ _ (View.readAt_full _ _ _))
        · refine (View.readAt_full _ _ _).trans ?_
          exact (if_neg hA').symm
        · refine (View.readAt_full _ _ _).trans (read_dite (F := F) arg12.view Iff.rfl _ _ _ fun hc => (View.read_writes_full _ _ _ _ _).trans ?_)
          exact congrArg (fun z => k0_pay3 (F := F) z k0_pay11) (X6_congr _ _ (View.readAt_full _ _ _))
    isplitl [H10]
    · iexists _; isplitr; swap; · iexact H10
      · ipureintro
        exact (if_neg hA').symm
    isplitl [H11]
    · iexists _; isplitr; swap; · iexact H11
      · ipureintro
        refine read_dite (F := F) arg11.view Iff.rfl _ _ _ fun hc => (View.read_writes_full _ _ _ _ _).trans ?_
        exact congrArg₂ _ (congrArg _ (View.readAt_full _ _ _)) (X6_congr _ _ (View.readAt_full _ _ _))
    · iexists _; isplitr; swap; · iexact H12
      · ipureintro
        refine read_dite (F := F) arg12.view Iff.rfl _ _ _ fun hc => (View.read_writes_full _ _ _ _ _).trans ?_
        exact congrArg (fun z => k0_pay3 (F := F) z k0_pay11) (X6_congr _ _ (View.readAt_full _ _ _))

end Cert.KernelIdeal.Body

end

end
-- ==== Proof.Visits.lean ====
/-
  The visit tables in natural numbers. `s e` is the number of rows of expert `e`; experts own consecutive runs of rows,
  expert `e` the rows from `pre s e` up to `pre s (e + 1)`. A visit is a pair of an expert and a 256-row tile its run
  meets; visits are numbered expert by expert, and within an expert tile by tile.
-/
module

public import Idealize.ShloMosaic.Lib.Routing.Ops

@[expose] public section

namespace Cert.Visits

/-- The sum of the first `n` values of `s`. -/
def pre (s : ℕ → ℕ) (n : ℕ) : ℕ := ((List.range n).map s).sum

theorem pre_zero (s : ℕ → ℕ) : pre s 0 = 0 := rfl

theorem pre_succ (s : ℕ → ℕ) (n : ℕ) : pre s (n + 1) = pre s n + s n := by
  simp [pre, List.range_succ]

theorem pre_mono (s : ℕ → ℕ) {a b : ℕ} (h : a ≤ b) : pre s a ≤ pre s b := by
  induction b, h using Nat.le_induction with
  | base => exact le_rfl
  | succ n _ ih => rw [pre_succ]; omega

/-- A value below the sum of the first `n` falls in the step of exactly one index: it exists. -/
theorem pre_step (s : ℕ → ℕ) (n v : ℕ) (h : v < pre s n) : ∃ g < n, pre s g ≤ v ∧ v < pre s (g + 1) := by
  induction n with
  | zero => exact absurd h (Nat.not_lt_zero _)
  | succ n ih =>
    by_cases hv : v < pre s n
    · obtain ⟨g, hg, h1, h2⟩ := ih hv
      exact ⟨g, by omega, h1, h2⟩
    · exact ⟨n, by omega, by omega, h⟩

/-- The step of a value is unique. -/
theorem pre_step_unique (s : ℕ → ℕ) {v g g' : ℕ} (h1 : pre s g ≤ v) (h2 : v < pre s (g + 1)) (h3 : pre s g' ≤ v)
    (h4 : v < pre s (g' + 1)) : g = g' := by
  rcases Nat.lt_trichotomy g g' with h | h | h
  · have := pre_mono s (show g + 1 ≤ g' by omega); omega
  · exact h
  · have := pre_mono s (show g' + 1 ≤ g by omega); omega

/-- How many tiles the run of expert `e` meets. -/
def cnt (s : ℕ → ℕ) (e : ℕ) : ℕ := if 0 < s e then (pre s (e + 1) - 1) / 256 - pre s e / 256 + 1 else 0

/-- The number of visits. -/
def nv (s : ℕ → ℕ) : ℕ := pre (cnt s) 16

/-- Grid points past the last visit repeat it. -/
def vis (s : ℕ → ℕ) (v : ℕ) : ℕ := min v (nv s - 1)

/-- The expert of visit `v`: how many experts have all their visits at or before `v`. -/
def gid (s : ℕ → ℕ) (v : ℕ) : ℕ := Nat.count (fun e => pre (cnt s) (e + 1) ≤ vis s v) 16

/-- The tile of visit `v`. -/
def tid (s : ℕ → ℕ) (v : ℕ) : ℕ := pre s (gid s v) / 256 + vis s v - pre (cnt s) (gid s v)

theorem count_lt (n : ℕ) (P : ℕ → Prop) [DecidablePred P] (g : ℕ) (hg : g ≤ n) (h : ∀ e < n, P e ↔ e < g) :
    Nat.count P n = g := by
  induction n generalizing g with
  | zero => simp; omega
  | succ n ih =>
    rw [Nat.count_succ]
    by_cases hn : g = n + 1
    · subst hn
      rw [ih n le_rfl fun e he => by rw [h e (by omega)]; omega, if_pos ((h n (by omega)).2 (by omega))]
    · rw [ih g (by omega) fun e he => h e (by omega), if_neg fun hp => by have := (h n (by omega)).1 hp; omega, Nat.add_zero]

section
variable {s : ℕ → ℕ} (hs : pre s 16 = 4096)
include hs

/-- There is at least one visit. -/
theorem nv_pos : 1 ≤ nv s := by
  obtain ⟨g, hg, h1, h2⟩ := pre_step s 16 0 (by omega)
  have h3 : 0 < s g := by rw [pre_succ] at h2; omega
  have h4 : pre (cnt s) (g + 1) ≤ nv s := pre_mono _ (by omega)
  rw [pre_succ, show cnt s g = _ from if_pos h3] at h4
  omega

/-- At most as many visits as tiles, and one more for every expert but the first. -/
theorem nv_le : nv s ≤ 31 := by
  have key : ∀ n, pre (cnt s) (n + 1) ≤ (pre s (n + 1) + 255) / 256 + n := by
    intro n
    induction n with
    | zero =>
      rw [pre_succ, pre_succ, pre_zero, pre_zero]
      unfold cnt
      split
      · rw [pre_succ, pre_zero]; omega
      · omega
    | succ n ih =>
      rw [pre_succ (cnt s) (n + 1)]
      have h := pre_succ s (n + 1)
      unfold cnt at ih ⊢
      split
      · omega
      · have h0 : s (n + 1) = 0 := by omega
        rw [h, h0]; omega
  have := key 15
  unfold nv
  rw [hs] at this
  omega

theorem vis_lt (v : ℕ) : vis s v < nv s := by
  have := nv_pos hs
  unfold vis; omega

/-- The expert of a visit is one of the sixteen, and the visit lies among that expert's. -/
theorem gid_spec (v : ℕ) : gid s v < 16 ∧ pre (cnt s) (gid s v) ≤ vis s v ∧ vis s v < pre (cnt s) (gid s v + 1) := by
  obtain ⟨g, hg, h1, h2⟩ := pre_step (cnt s) 16 (vis s v) (vis_lt hs v)
  have e : gid s v = g := by
    unfold gid
    refine count_lt 16 _ g (by omega) fun e he => ⟨fun h => ?_, fun h => ?_⟩
    · by_contra hc
      have := pre_mono (cnt s) (show g + 1 ≤ e + 1 by omega)
      omega
    · exact le_trans (pre_mono _ (by omega)) h1
  rw [e]
  exact ⟨hg, h1, h2⟩

theorem gid_lt (v : ℕ) : gid s v < 16 := (gid_spec hs v).1

/-- The expert of a visit owns at least one row. -/
theorem gid_pos (v : ℕ) : 0 < s (gid s v) := by
  obtain ⟨_, h1, h2⟩ := gid_spec hs v
  by_contra h
  rw [pre_succ, show cnt s (gid s v) = 0 from if_neg h] at h2
  omega

/-- The tile of a visit lies between the tile of the expert's first row and the tile of its last. -/
theorem tid_spec (v : ℕ) : pre s (gid s v) / 256 ≤ tid s v ∧ tid s v ≤ (pre s (gid s v + 1) - 1) / 256 := by
  obtain ⟨hg, h1, h2⟩ := gid_spec hs v
  have hp := gid_pos hs v
  rw [pre_succ, show cnt s (gid s v) = _ from if_pos hp] at h2
  have h3 : pre s (gid s v) / 256 ≤ (pre s (gid s v + 1) - 1) / 256 := by
    have := pre_succ s (gid s v)
    exact Nat.div_le_div_right (by omega)
  unfold tid
  omega

theorem tid_lt (v : ℕ) : tid s v < 16 := by
  have h1 := (tid_spec hs v).2
  have h2 : pre s (gid s v + 1) ≤ pre s 16 := pre_mono s (by have := gid_lt hs v; omega)
  rw [hs] at h2
  omega

omit hs in
/-- Past the last visit the tables repeat. -/
theorem idle_eq {v : ℕ} (h : nv s ≤ v + 1) : gid s (v + 1) = gid s v ∧ tid s (v + 1) = tid s v := by
  have e : vis s (v + 1) = vis s v := by unfold vis; omega
  unfold tid gid
  rw [e]
  exact ⟨rfl, rfl⟩

/-- Later visits belong to later (or the same) experts. -/
theorem gid_mono {u v : ℕ} (h : u ≤ v) : gid s u ≤ gid s v := by
  obtain ⟨_, h1, h2⟩ := gid_spec hs u
  obtain ⟨_, h3, h4⟩ := gid_spec hs v
  have hv : vis s u ≤ vis s v := by unfold vis; omega
  by_contra hc
  have := pre_mono (cnt s) (show gid s v + 1 ≤ gid s u by omega)
  omega

/-- The tiles of the visits never go back. -/
theorem tid_mono {u v : ℕ} (h : u ≤ v) : tid s u ≤ tid s v := by
  have hg := gid_mono hs h
  have hv : vis s u ≤ vis s v := by unfold vis; omega
  rcases Nat.lt_or_eq_of_le hg with hlt | heq
  · have h1 := (tid_spec hs u).2
    have h2 := (tid_spec hs v).1
    have h3 : pre s (gid s u + 1) ≤ pre s (gid s v) := pre_mono s (by omega)
    have h4 : (pre s (gid s u + 1) - 1) / 256 ≤ pre s (gid s v) / 256 := Nat.div_le_div_right (by omega)
    omega
  · unfold tid
    rw [heq]
    omega

/-- Every row belongs to one expert. -/
theorem owner (R : ℕ) (hR : R < 4096) : ∃ e < 16, pre s e ≤ R ∧ R < pre s (e + 1) := pre_step s 16 R (by omega)

/-- Every row is met by a visit of its own expert to its own tile. -/
theorem covered (R : ℕ) (hR : R < 4096) :
    ∃ u < nv s, tid s u = R / 256 ∧ pre s (gid s u) ≤ R ∧ R < pre s (gid s u + 1) := by
  obtain ⟨e, he, h1, h2⟩ := owner hs R hR
  have hp : 0 < s e := by rw [pre_succ] at h2; omega
  have hc : cnt s e = _ := if_pos hp
  have hd : pre s e / 256 ≤ R / 256 := Nat.div_le_div_right h1
  have hd2 : R / 256 ≤ (pre s (e + 1) - 1) / 256 := Nat.div_le_div_right (by omega)
  have h3 := pre_succ (cnt s) e
  have hlt : pre (cnt s) e + (R / 256 - pre s e / 256) < pre (cnt s) (e + 1) := by rw [h3, hc]; omega
  have hle : pre (cnt s) (e + 1) ≤ nv s := pre_mono _ (by omega)
  refine ⟨pre (cnt s) e + (R / 256 - pre s e / 256), by omega, ?_⟩
  have hvis : vis s (pre (cnt s) e + (R / 256 - pre s e / 256)) = pre (cnt s) e + (R / 256 - pre s e / 256) := by
    unfold vis; omega
  have hgs := gid_spec hs (pre (cnt s) e + (R / 256 - pre s e / 256))
  rw [hvis] at hgs
  have hg : gid s (pre (cnt s) e + (R / 256 - pre s e / 256)) = e :=
    pre_step_unique (cnt s) hgs.2.1 hgs.2.2 (by omega) hlt
  rw [hg]
  refine ⟨?_, h1, h2⟩
  unfold tid
  rw [hg, hvis]
  omega

/-- No more rows before an expert than there are. -/
theorem pre_le {n : ℕ} (hn : n ≤ 16) : pre s n ≤ 4096 := hs ▸ pre_mono s hn

end

end Cert.Visits

end
-- ==== Proof.Tables.lean ====
/-
  The tables the host computes from the group sizes — first row and one past the last row of every expert, the number of
  visits, the expert and the tile of every visit —, as one term each in the group sizes, and what each holds: the words
  of the natural numbers of Visits.lean, whenever the sizes are the words of naturals that add up to 4096.
-/
module

public import proofs.«01_k».proof.Proof.Visits
public import proofs.«01_k».proof.Proof.Gen.KernelIdeal
public import Idealize.ShloMosaic.Lib.Routing.Ops
public import Idealize.ShloMosaic.Lib.Routing.OpsSet
public import Idealize.ShloMosaic.Lib.Routing.Words
public import Idealize.ShloMosaic.Lib.Routing.BitFacts
public import Idealize.ShloMosaic.Lib.WordCmp

@[expose] public section

noncomputable section

namespace Cert.Tables

open Idealize.ShloMosaic Idealize.ShloMosaic.ValueIdx Idealize.ShloMosaic.Routing Idealize.ShloMosaic.WordCmp
open Cert.Visits

open Cert.KernelIdeal Cert.KernelIdeal.Facts₀

/-- The scalar word `c` at every one of the sixteen experts. -/
abbrev c16 (c : BitVec 32) : IVec S16 32 := broadcastInDim S16 ![] bcast_S_S16 (constantI S_ 32 c)
/-- The scalar word `c` at every one of the thirty-one grid points. -/
abbrev c31 (c : BitVec 32) : IVec S31 32 := broadcastInDim S31 ![] bcast_S_S31 (constantI S_ 32 c)

/-- The running sum of a vector of sixteen words. -/
def cumsum (x : IVec S16 32) : IVec S16 32 :=
  Host.reduceWindow IntOp.addi ![16] ![1] ![15] ![0] x (broadcastInDim S_ ![] bcast_S_S_ (constantI S_ 32 0#32))
    reduceWindows_S16_S16_w16s1p15_0 h_S_

/-- One past the last row of every expert. -/
def ends (g : IVec S16 32) : IVec S16 32 := cumsum g
/-- The first row of every expert. -/
def starts (g : IVec S16 32) : IVec S16 32 := subi (ends g) g
/-- The tile of the first row of every expert. -/
def first (g : IVec S16 32) : IVec S16 32 := pyDiv bcast_S_S16 (starts g) (constantI S_ 32 256#32)
/-- How many tiles every expert meets. -/
def count (g : IVec S16 32) : IVec S16 32 :=
  select (cmpi .sgt g (c16 0#32))
    (addi (subi (pyDiv bcast_S_S16 (subi (ends g) (c16 1#32)) (constantI S_ 32 256#32)) (first g)) (c16 1#32)) (c16 0#32)
/-- The running sum of those. -/
def cum (g : IVec S16 32) : IVec S16 32 := cumsum (count g)
/-- The number of visits. -/
def visits (g : IVec S16 32) : IVec S1 32 := extractStridedSlice S1 ![15] (cum g) slices_S16_S1_15
/-- The visit of every grid point: the points past the last visit repeat it. -/
def visit (g : IVec S16 32) : IVec S31 32 :=
  minsi (iotaInDim S31 32 0)
    (broadcastInDim S31 ![] bcast_S_S31 (subi (shapeCast S_ (visits g) shapeCasts_S1_S_) (constantI S_ 32 1#32)))
/-- The expert of every grid point. -/
def expert (g : IVec S16 32) : IVec S31 32 :=
  Host.reduce IntOp.addi
    (extui 32 (cmpi .sle (broadcastInDim S31x16 ![0, 1] bcast_S1x16_S31x16_0_1 (broadcastInDim S1x16 ![1] bcast_S16_S1x16_1 (cum g)))
      (broadcastInDim S31x16 ![0, 1] bcast_S31x1_S31x16_0_1 (broadcastInDim S31x1 ![0] bcast_S31_S31x1_0 (visit g)))) natLt_1_32)
    (constantI S_ 32 0#32) reducesTo_S31x16_S31_d1 h_S_
/-- A vector of the experts read at the expert of every grid point. -/
def take (g : IVec S16 32) (x : IVec S16 32) : IVec S31 32 :=
  Host.gather gather_S16_S31x1_S31_n_0_n_n_0_1_1 x
    (broadcastInDim S31x1 ![0] bcast_S31_S31x1_0
      (select (cmpi .slt (expert g) (c31 0#32)) (addi (expert g) (c31 16#32)) (expert g)))
/-- The tile of every grid point. -/
def tile (g : IVec S16 32) : IVec S31 32 :=
  subi (addi (take g (first g)) (visit g)) (subi (take g (cum g)) (take g (count g)))

section
variable {g : IVec S16 32} {s : ℕ → ℕ} (hg : ∀ i : Fin 16, g (ix1 i) = BitVec.ofNat 32 (s i.val)) (hs : pre s 16 = 4096)
include hg

theorem cumsum_ap {x : IVec S16 32} {f : ℕ → ℕ} (hx : ∀ i : Fin 16, x (ix1 i) = BitVec.ofNat 32 (f i.val)) (j : Fin 16) :
    cumsum x (ix1 j) = BitVec.ofNat 32 (pre f (j.val + 1)) :=
  cumsum1 (N := 16) (Nm1 := 15) rfl x f hx _ (bc0 _ _ _) _ _ j

theorem ends_ap (j : Fin 16) : ends g (ix1 j) = BitVec.ofNat 32 (pre s (j.val + 1)) := cumsum_ap hg hg j

omit hg in
theorem ofNat_sub_ofNat {a b : ℕ} (h : b ≤ a) : BitVec.ofNat 32 a - BitVec.ofNat 32 b = BitVec.ofNat 32 (a - b) := by
  have e : BitVec.ofNat 32 a = BitVec.ofNat 32 (a - b) + BitVec.ofNat 32 b := by
    rw [← BitVec.ofNat_add]; congr 1; omega
  rw [e]
  exact BitVec.add_sub_cancel _ _

theorem starts_ap (j : Fin 16) : starts g (ix1 j) = BitVec.ofNat 32 (pre s j.val) := by
  unfold starts
  rw [subi_ap, ends_ap hg, hg, ofNat_sub_ofNat (by rw [pre_succ]; omega), pre_succ, Nat.add_sub_cancel]

include hs

theorem first_ap (j : Fin 16) : first g (ix1 j) = BitVec.ofNat 32 (pre s j.val / 256) :=
  pyDiv_ap _ _ _ _ (starts_ap hg j) rfl (by have := pre_le hs (n := j.val) (by omega); omega) (by decide) (by decide)

theorem count_ap (j : Fin 16) : count g (ix1 j) = BitVec.ofNat 32 (cnt s j.val) := by
  have hle := pre_le hs (n := j.val + 1) (by omega)
  have hsu := pre_succ s j.val
  have hb : ∀ c : BitVec 32, c16 c (ix1 j) = c := fun c => bc0 _ _ _
  unfold count
  rw [select_at, cmpi_at, addi_ap, subi_ap, hb, hb, hg]
  have hc : IntOp.cmpi .sgt (BitVec.ofNat 32 (s j.val)) 0#32 = if 0 < s j.val then 1#1 else 0#1 := by
    unfold IntOp.cmpi
    show BitVec.ofBool ((BitVec.ofNat 32 0).slt (BitVec.ofNat 32 (s j.val))) = _
    rw [slt_ofNat32 (by decide) (by omega)]
    split <;> simp_all
  rw [hc]
  unfold cnt
  by_cases h0 : 0 < s j.val
  · rw [if_pos h0, if_pos h0]
    have e : pyDiv bcast_S_S16 (subi (ends g) (c16 1#32)) (constantI S_ 32 256#32) (ix1 j)
        = BitVec.ofNat 32 ((pre s (j.val + 1) - 1) / 256) := by
      refine pyDiv_ap _ _ _ _ ?_ rfl (by omega) (by decide) (by decide)
      rw [subi_ap, ends_ap hg, hb]
      exact ofNat_sub_ofNat (b := 1) (by omega)
    have hd : pre s j.val / 256 ≤ (pre s (j.val + 1) - 1) / 256 := Nat.div_le_div_right (by omega)
    rw [e, first_ap hg hs, ofNat_sub_ofNat hd]
    show _ + BitVec.ofNat 32 1 = _
    rw [← BitVec.ofNat_add]
  · rw [if_neg h0, if_neg h0]
    rfl

theorem cum_ap (j : Fin 16) : cum g (ix1 j) = BitVec.ofNat 32 (pre (cnt s) (j.val + 1)) :=
  cumsum_ap hg (count_ap hg hs) j

theorem visits_ap : visits g (ix1 0) = BitVec.ofNat 32 (nv s) :=
  (slice1 15 (cum g) _ 0 (by decide)).trans (cum_ap hg hs _)

theorem visit_ap (v : Fin 31) : visit g (ix1 v) = BitVec.ofNat 32 (vis s v.val) := by
  have h1 := nv_pos hs
  have h2 := nv_le hs
  have e : broadcastInDim S31 ![] bcast_S_S31 (subi (shapeCast S_ (visits g) shapeCasts_S1_S_) (constantI S_ 32 1#32)) (ix1 v)
      = BitVec.ofNat 32 (nv s - 1) := by
    refine (bc0 _ _ _).trans ?_
    rw [subi_ap]
    have : shapeCast S_ (visits g) shapeCasts_S1_S_ ix0 = visits g (ix1 0) := by
      unfold shapeCast
      refine congrArg _ (funext fun a => ?_)
      have : ∀ x y : S1.Idx, x = y := by decide
      exact congrFun (this _ _) a
    rw [this, visits_ap hg hs]
    exact ofNat_sub_ofNat (b := 1) h1
  show IntOp.minsi (BitVec.ofNat 32 v.val) _ = _
  rw [e]
  unfold IntOp.minsi
  rw [slt_ofNat32 (by omega) (by omega)]
  unfold vis
  by_cases h : v.val < nv s - 1
  · rw [if_pos (decide_eq_true h), Nat.min_eq_left (by omega)]
  · rw [if_neg (fun e => h (of_decide_eq_true e)), Nat.min_eq_right (by omega)]

theorem expert_ap (v : Fin 31) : expert g (ix1 v) = BitVec.ofNat 32 (gid s v.val) := by
  have h2 := nv_le hs
  have h3 := vis_lt hs v.val
  refine reduce_count (n := 31) (m := 16) (by decide) _ _ _ _ v (fun e => pre (cnt s) (e + 1) ≤ vis s v.val) fun q => ?_
  have hq : pre (cnt s) (q.val + 1) ≤ nv s := pre_mono _ (by omega)
  have e1 : broadcastInDim S31x16 ![0, 1] bcast_S1x16_S31x16_0_1 (broadcastInDim S1x16 ![1] bcast_S16_S1x16_1 (cum g)) (ix2 v q)
      = BitVec.ofNat 32 (pre (cnt s) (q.val + 1)) := (bcCols _ _ _ v q).trans (cum_ap hg hs q)
  have e2 : broadcastInDim S31x16 ![0, 1] bcast_S31x1_S31x16_0_1 (broadcastInDim S31x1 ![0] bcast_S31_S31x1_0 (visit g)) (ix2 v q)
      = BitVec.ofNat 32 (vis s v.val) := (bcRows _ _ _ v q).trans (visit_ap hg hs v)
  rw [cmpi_at, e1, e2]
  unfold IntOp.cmpi
  show BitVec.ofBool ((BitVec.ofNat 32 _).sle (BitVec.ofNat 32 _)) = 1#1 ↔ _
  rw [sle_ofNat32 (by omega) (by omega)]
  by_cases h : pre (cnt s) (q.val + 1) ≤ vis s v.val <;> simp [h]

theorem take_ap {x : IVec S16 32} {f : ℕ → ℕ} (hx : ∀ i : Fin 16, x (ix1 i) = BitVec.ofNat 32 (f i.val)) (v : Fin 31) :
    take g x (ix1 v) = BitVec.ofNat 32 (f (gid s v.val)) := by
  have hlt := gid_lt hs v.val
  refine (gather_take1 (N := 16) (n := 31) _ rfl rfl rfl rfl x _ v ⟨gid s v.val, hlt⟩ ?_ (by decide)).trans (hx _)
  refine (bcCol _ _ v).trans ?_
  have hb : ∀ c : BitVec 32, c31 c (ix1 v) = c := fun c => bc0 _ _ _
  rw [select_at, cmpi_at, hb, expert_ap hg hs]
  have hc : IntOp.cmpi .slt (BitVec.ofNat 32 (gid s v.val)) 0#32 = 0#1 := by
    unfold IntOp.cmpi
    show BitVec.ofBool ((BitVec.ofNat 32 _).slt (BitVec.ofNat 32 0)) = _
    rw [slt_ofNat32 (by omega) (by decide)]
    simp
  rw [hc]
  rfl

theorem tile_ap (v : Fin 31) : tile g (ix1 v) = BitVec.ofNat 32 (tid s v.val) := by
  have h1 := gid_spec hs v.val
  have h2 := (tid_spec hs v.val).1
  unfold tile
  rw [subi_ap, addi_ap, subi_ap, take_ap hg hs (f := fun n => pre s n / 256) (first_ap hg hs), take_ap hg hs (f := fun n => pre (cnt s) (n + 1)) (cum_ap hg hs),
    take_ap hg hs (count_ap hg hs), visit_ap hg hs, ← BitVec.ofNat_add]
  have h3 := pre_succ (cnt s) (gid s v.val)
  rw [ofNat_sub_ofNat (by omega), ofNat_sub_ofNat (by omega)]
  refine congrArg _ ?_
  unfold tid
  omega

end

end Cert.Tables

end

end
-- ==== Proof.Entry.lean ====
/-
  The contents of the buffers when the grid starts: the host's tables are those of Tables.lean at the group sizes as
  launched, and the arguments are as launched.
-/
module

public import proofs.«01_k».proof.Proof.Tables
public import proofs.«01_k».proof.Proof.Gen.KernelIdeal.Launch
public import Idealize.ShloMosaic.Lib.Claim

@[expose] public section

set_option maxRecDepth 16384

noncomputable section

namespace Cert.KernelIdeal.Entry

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F]
variable (m : (ℓ : Loc nD τ sig) → Buf (Elt F) ℓ)

/-- The host operations before the grid, in order. -/
abbrev hostOps : List (List (HloOp τ sig (Elt F))) :=
  [hostOps0, hostOps0_1, hostOps0_2, hostOps0_3, hostOps0_4, hostOps0_5, hostOps0_6, hostOps0_7, hostOps0_8]

/-- The contents of core `c`'s buffer `b` when the grid starts. -/
abbrev V (c : Dev nD) (b : Ref sig .tc) : Buf (Elt F) ((c : Thread nD τ).loc b) :=
  StableHlo.after (List.flatten hostOps) (fun b => m (c, b)) (Proc.devRef .tc b)

section
variable (σ : Valuation τ sig (Elt F))

/-- What the buffers read later hold after stretch 0 of the host operations. -/
theorem stretch0 :
    StableHlo.after hostOps0 σ (Proc.devRef .tc main_v0) = Tables.cumsum (σ (Proc.devRef .tc main_arg1))
    ∧ StableHlo.after hostOps0 σ (Proc.devRef .tc main_arg0) = σ (Proc.devRef .tc main_arg0)
    ∧ StableHlo.after hostOps0 σ (Proc.devRef .tc main_arg1) = σ (Proc.devRef .tc main_arg1)
    ∧ StableHlo.after hostOps0 σ (Proc.devRef .tc main_arg2) = σ (Proc.devRef .tc main_arg2)
    ∧ StableHlo.after hostOps0 σ (Proc.devRef .tc main_arg3) = σ (Proc.devRef .tc main_arg3) := by
  refine ⟨?_, ?_, ?_, ?_, ?_⟩ <;>
  · entry_read
    try simp -implicitDefEqProofs only [StableHlo.TRef.toBuf, StableHlo.TRef.ofBuf, cast_cast, cast_eq]
    try rfl

/-- What the buffers read later hold after stretch 1 of the host operations. -/
theorem stretch1 :
    StableHlo.after hostOps0_1 σ (Proc.devRef .tc main_v1) = subi (σ (Proc.devRef .tc main_v0)) (σ (Proc.devRef .tc main_arg1))
    ∧ StableHlo.after hostOps0_1 σ (Proc.devRef .tc main_c) = constantI S_ 32 256#32
    ∧ StableHlo.after hostOps0_1 σ (Proc.devRef .tc main_v0) = σ (Proc.devRef .tc main_v0)
    ∧ StableHlo.after hostOps0_1 σ (Proc.devRef .tc main_arg0) = σ (Proc.devRef .tc main_arg0)
    ∧ StableHlo.after hostOps0_1 σ (Proc.devRef .tc main_arg1) = σ (Proc.devRef .tc main_arg1)
    ∧ StableHlo.after hostOps0_1 σ (Proc.devRef .tc main_arg2) = σ (Proc.devRef .tc main_arg2)
    ∧ StableHlo.after hostOps0_1 σ (Proc.devRef .tc main_arg3) = σ (Proc.devRef .tc main_arg3) := by
  refine ⟨?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 2 of the host operations. -/
theorem stretch2 :
    StableHlo.after hostOps0_2 σ (Proc.devRef .tc main_v2) = Routing.pyDiv Facts₀.bcast_S_S16 (σ (Proc.devRef .tc main_v1)) (σ (Proc.devRef .tc main_c))
    ∧ StableHlo.after hostOps0_2 σ (Proc.devRef .tc main_v0) = σ (Proc.devRef .tc main_v0)
    ∧ StableHlo.after hostOps0_2 σ (Proc.devRef .tc main_v1) = σ (Proc.devRef .tc main_v1)
    ∧ StableHlo.after hostOps0_2 σ (Proc.devRef .tc main_arg0) = σ (Proc.devRef .tc main_arg0)
    ∧ StableHlo.after hostOps0_2 σ (Proc.devRef .tc main_arg1) = σ (Proc.devRef .tc main_arg1)
    ∧ StableHlo.after hostOps0_2 σ (Proc.devRef .tc main_arg2) = σ (Proc.devRef .tc main_arg2)
    ∧ StableHlo.after hostOps0_2 σ (Proc.devRef .tc main_arg3) = σ (Proc.devRef .tc main_arg3) := by
  refine ⟨?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 3 of the host operations. -/
theorem stretch3 :
    StableHlo.after hostOps0_3 σ (Proc.devRef .tc main_v4) = cmpi .sgt (σ (Proc.devRef .tc main_arg1)) (Tables.c16 0#32)
    ∧ StableHlo.after hostOps0_3 σ (Proc.devRef .tc main_v6) = subi (σ (Proc.devRef .tc main_v0)) (Tables.c16 1#32)
    ∧ StableHlo.after hostOps0_3 σ (Proc.devRef .tc main_c_2) = constantI S_ 32 256#32
    ∧ StableHlo.after hostOps0_3 σ (Proc.devRef .tc main_v0) = σ (Proc.devRef .tc main_v0)
    ∧ StableHlo.after hostOps0_3 σ (Proc.devRef .tc main_v1) = σ (Proc.devRef .tc main_v1)
    ∧ StableHlo.after hostOps0_3 σ (Proc.devRef .tc main_v2) = σ (Proc.devRef .tc main_v2)
    ∧ StableHlo.after hostOps0_3 σ (Proc.devRef .tc main_arg0) = σ (Proc.devRef .tc main_arg0)
    ∧ StableHlo.after hostOps0_3 σ (Proc.devRef .tc main_arg1) = σ (Proc.devRef .tc main_arg1)
    ∧ StableHlo.after hostOps0_3 σ (Proc.devRef .tc main_arg2) = σ (Proc.devRef .tc main_arg2)
    ∧ StableHlo.after hostOps0_3 σ (Proc.devRef .tc main_arg3) = σ (Proc.devRef .tc main_arg3) := by
  refine ⟨?_, ?_, ?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 4 of the host operations. -/
theorem stretch4 :
    StableHlo.after hostOps0_4 σ (Proc.devRef .tc main_v7) = Routing.pyDiv Facts₀.bcast_S_S16 (σ (Proc.devRef .tc main_v6)) (σ (Proc.devRef .tc main_c_2))
    ∧ StableHlo.after hostOps0_4 σ (Proc.devRef .tc main_v0) = σ (Proc.devRef .tc main_v0)
    ∧ StableHlo.after hostOps0_4 σ (Proc.devRef .tc main_v1) = σ (Proc.devRef .tc main_v1)
    ∧ StableHlo.after hostOps0_4 σ (Proc.devRef .tc main_v2) = σ (Proc.devRef .tc main_v2)
    ∧ StableHlo.after hostOps0_4 σ (Proc.devRef .tc main_v4) = σ (Proc.devRef .tc main_v4)
    ∧ StableHlo.after hostOps0_4 σ (Proc.devRef .tc main_arg0) = σ (Proc.devRef .tc main_arg0)
    ∧ StableHlo.after hostOps0_4 σ (Proc.devRef .tc main_arg1) = σ (Proc.devRef .tc main_arg1)
    ∧ StableHlo.after hostOps0_4 σ (Proc.devRef .tc main_arg2) = σ (Proc.devRef .tc main_arg2)
    ∧ StableHlo.after hostOps0_4 σ (Proc.devRef .tc main_arg3) = σ (Proc.devRef .tc main_arg3) := by
  refine ⟨?_, ?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 5 of the host operations. -/
theorem stretch5 :
    StableHlo.after hostOps0_5 σ (Proc.devRef .tc main_v10) = addi (subi (σ (Proc.devRef .tc main_v7)) (σ (Proc.devRef .tc main_v2))) (Tables.c16 1#32)
    ∧ StableHlo.after hostOps0_5 σ (Proc.devRef .tc main_c_4) = constantI S_ 32 0#32
    ∧ StableHlo.after hostOps0_5 σ (Proc.devRef .tc main_v0) = σ (Proc.devRef .tc main_v0)
    ∧ StableHlo.after hostOps0_5 σ (Proc.devRef .tc main_v1) = σ (Proc.devRef .tc main_v1)
    ∧ StableHlo.after hostOps0_5 σ (Proc.devRef .tc main_v2) = σ (Proc.devRef .tc main_v2)
    ∧ StableHlo.after hostOps0_5 σ (Proc.devRef .tc main_v4) = σ (Proc.devRef .tc main_v4)
    ∧ StableHlo.after hostOps0_5 σ (Proc.devRef .tc main_arg0) = σ (Proc.devRef .tc main_arg0)
    ∧ StableHlo.after hostOps0_5 σ (Proc.devRef .tc main_arg1) = σ (Proc.devRef .tc main_arg1)
    ∧ StableHlo.after hostOps0_5 σ (Proc.devRef .tc main_arg2) = σ (Proc.devRef .tc main_arg2)
    ∧ StableHlo.after hostOps0_5 σ (Proc.devRef .tc main_arg3) = σ (Proc.devRef .tc main_arg3) := by
  refine ⟨?_, ?_, ?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 6 of the host operations. -/
theorem stretch6 :
    StableHlo.after hostOps0_6 σ (Proc.devRef .tc main_v11) = select (σ (Proc.devRef .tc main_v4)) (σ (Proc.devRef .tc main_v10)) (broadcastInDim S16 ![] Facts₀.bcast_S_S16 (σ (Proc.devRef .tc main_c_4)))
    ∧ StableHlo.after hostOps0_6 σ (Proc.devRef .tc main_v0) = σ (Proc.devRef .tc main_v0)
    ∧ StableHlo.after hostOps0_6 σ (Proc.devRef .tc main_v1) = σ (Proc.devRef .tc main_v1)
    ∧ StableHlo.after hostOps0_6 σ (Proc.devRef .tc main_v2) = σ (Proc.devRef .tc main_v2)
    ∧ StableHlo.after hostOps0_6 σ (Proc.devRef .tc main_arg0) = σ (Proc.devRef .tc main_arg0)
    ∧ StableHlo.after hostOps0_6 σ (Proc.devRef .tc main_arg1) = σ (Proc.devRef .tc main_arg1)
    ∧ StableHlo.after hostOps0_6 σ (Proc.devRef .tc main_arg2) = σ (Proc.devRef .tc main_arg2)
    ∧ StableHlo.after hostOps0_6 σ (Proc.devRef .tc main_arg3) = σ (Proc.devRef .tc main_arg3) := by
  refine ⟨?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 7 of the host operations. -/
theorem stretch7 :
    StableHlo.after hostOps0_7 σ (Proc.devRef .tc main_v12) = Tables.cumsum (σ (Proc.devRef .tc main_v11))
    ∧ StableHlo.after hostOps0_7 σ (Proc.devRef .tc main_v0) = σ (Proc.devRef .tc main_v0)
    ∧ StableHlo.after hostOps0_7 σ (Proc.devRef .tc main_v1) = σ (Proc.devRef .tc main_v1)
    ∧ StableHlo.after hostOps0_7 σ (Proc.devRef .tc main_v2) = σ (Proc.devRef .tc main_v2)
    ∧ StableHlo.after hostOps0_7 σ (Proc.devRef .tc main_v11) = σ (Proc.devRef .tc main_v11)
    ∧ StableHlo.after hostOps0_7 σ (Proc.devRef .tc main_arg0) = σ (Proc.devRef .tc main_arg0)
    ∧ StableHlo.after hostOps0_7 σ (Proc.devRef .tc main_arg1) = σ (Proc.devRef .tc main_arg1)
    ∧ StableHlo.after hostOps0_7 σ (Proc.devRef .tc main_arg2) = σ (Proc.devRef .tc main_arg2)
    ∧ StableHlo.after hostOps0_7 σ (Proc.devRef .tc main_arg3) = σ (Proc.devRef .tc main_arg3) := by
  refine ⟨?_, ?_, ?_, ?_, ?_, ?_, ?_, ?_, ?_⟩ <;>
  · entry_read
    try simp -implicitDefEqProofs only [StableHlo.TRef.toBuf, StableHlo.TRef.ofBuf, cast_cast, cast_eq]
    try rfl

/-- The visit of every grid point, from the running sum of the tile counts. -/
abbrev visitOf (c : IVec S16 32) : IVec S31 32 :=
  minsi (iotaInDim S31 32 0)
    (broadcastInDim S31 ![] Facts₀.bcast_S_S31
      (subi (shapeCast S_ (extractStridedSlice S1 ![15] c Facts₀.slices_S16_S1_15) Facts₀.shapeCasts_S1_S_) (constantI S_ 32 1#32)))
/-- The expert of every grid point, from the running sum of the tile counts. -/
abbrev expertOf (c : IVec S16 32) : IVec S31 32 :=
  Host.reduce IntOp.addi
    (extui 32 (cmpi .sle (broadcastInDim S31x16 ![0, 1] Facts₀.bcast_S1x16_S31x16_0_1 (broadcastInDim S1x16 ![1] Facts₀.bcast_S16_S1x16_1 c))
      (broadcastInDim S31x16 ![0, 1] Facts₀.bcast_S31x1_S31x16_0_1 (broadcastInDim S31x1 ![0] Facts₀.bcast_S31_S31x1_0 (visitOf c)))) Facts₀.natLt_1_32)
    (constantI S_ 32 0#32) Facts₀.reducesTo_S31x16_S31_d1 Facts₀.h_S_
/-- A vector of the experts read at the expert of every grid point. -/
abbrev takeOf (c x : IVec S16 32) : IVec S31 32 :=
  Host.gather gather_S16_S31x1_S31_n_0_n_n_0_1_1 x
    (broadcastInDim S31x1 ![0] Facts₀.bcast_S31_S31x1_0
      (select (cmpi .slt (expertOf c) (Tables.c31 0#32)) (addi (expertOf c) (Tables.c31 16#32)) (expertOf c)))

/-- What the tables hold after the last stretch. -/
theorem stretch8 :
    StableHlo.after hostOps0_8 σ (Proc.devRef .tc main_v13) = extractStridedSlice S1 ![15] (σ (Proc.devRef .tc main_v12)) Facts₀.slices_S16_S1_15
    ∧ StableHlo.after hostOps0_8 σ (Proc.devRef .tc main_v25) = expertOf (σ (Proc.devRef .tc main_v12))
    ∧ StableHlo.after hostOps0_8 σ (Proc.devRef .tc main_v49)
      = subi (addi (takeOf (σ (Proc.devRef .tc main_v12)) (σ (Proc.devRef .tc main_v2))) (visitOf (σ (Proc.devRef .tc main_v12))))
        (subi (takeOf (σ (Proc.devRef .tc main_v12)) (σ (Proc.devRef .tc main_v12))) (takeOf (σ (Proc.devRef .tc main_v12)) (σ (Proc.devRef .tc main_v11))))
    ∧ StableHlo.after hostOps0_8 σ (Proc.devRef .tc main_v0) = σ (Proc.devRef .tc main_v0)
    ∧ StableHlo.after hostOps0_8 σ (Proc.devRef .tc main_v1) = σ (Proc.devRef .tc main_v1)
    ∧ StableHlo.after hostOps0_8 σ (Proc.devRef .tc main_arg0) = σ (Proc.devRef .tc main_arg0)
    ∧ StableHlo.after hostOps0_8 σ (Proc.devRef .tc main_arg1) = σ (Proc.devRef .tc main_arg1)
    ∧ StableHlo.after hostOps0_8 σ (Proc.devRef .tc main_arg2) = σ (Proc.devRef .tc main_arg2)
    ∧ StableHlo.after hostOps0_8 σ (Proc.devRef .tc main_arg3) = σ (Proc.devRef .tc main_arg3) := by
  refine ⟨?_, ?_, ?_, ?_, ?_, ?_, ?_, ?_, ?_⟩ <;>
  · entry_read
    try simp -implicitDefEqProofs only [StableHlo.TRef.toBuf, StableHlo.TRef.ofBuf, cast_cast, cast_eq]
    try rfl
end

theorem after_append (l₁ l₂ : List (HloOp τ sig (Elt F))) (σ : Valuation τ sig (Elt F)) :
    StableHlo.after (l₁ ++ l₂) σ = StableHlo.after l₂ (StableHlo.after l₁ σ) := by
  induction l₁ generalizing σ with
  | nil => rfl
  | cons op l ih => exact ih _

/-- The nine stretches run one after the other. -/
theorem V_eq (c : Dev nD) (b : Ref sig .tc) :
    V m c b = StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))) (Proc.devRef .tc b) := by
  unfold V hostOps
  simp only [List.flatten_cons, List.flatten_nil, after_append]
  rfl

/-- The nine stretches composed. -/
abbrev afterAll (σ : Valuation τ sig (Elt F)) : Valuation τ sig (Elt F) :=
  StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 σ))))))))

/-- What the arguments and the tables hold after all of them. -/
theorem stretches (σ : Valuation τ sig (Elt F)) :
    afterAll σ (Proc.devRef .tc main_arg0) = σ (Proc.devRef .tc main_arg0)
    ∧ afterAll σ (Proc.devRef .tc main_arg1) = σ (Proc.devRef .tc main_arg1)
    ∧ afterAll σ (Proc.devRef .tc main_arg2) = σ (Proc.devRef .tc main_arg2)
    ∧ afterAll σ (Proc.devRef .tc main_arg3) = σ (Proc.devRef .tc main_arg3)
    ∧ afterAll σ (Proc.devRef .tc main_v0) = Tables.ends (σ (Proc.devRef .tc main_arg1))
    ∧ afterAll σ (Proc.devRef .tc main_v1) = Tables.starts (σ (Proc.devRef .tc main_arg1))
    ∧ afterAll σ (Proc.devRef .tc main_v13) = Tables.visits (σ (Proc.devRef .tc main_arg1))
    ∧ afterAll σ (Proc.devRef .tc main_v25) = Tables.expert (σ (Proc.devRef .tc main_arg1))
    ∧ afterAll σ (Proc.devRef .tc main_v49) = Tables.tile (σ (Proc.devRef .tc main_arg1)) := by
  unfold afterAll
  obtain ⟨h0_v0, h0_arg0, h0_arg1, h0_arg2, h0_arg3⟩ := stretch0 σ
  generalize StableHlo.after hostOps0 σ = σ0 at *
  obtain ⟨h1_v1, h1_c, h1_v0, h1_arg0, h1_arg1, h1_arg2, h1_arg3⟩ := stretch1 σ0
  generalize StableHlo.after hostOps0_1 σ0 = σ1 at *
  obtain ⟨h2_v2, h2_v0, h2_v1, h2_arg0, h2_arg1, h2_arg2, h2_arg3⟩ := stretch2 σ1
  generalize StableHlo.after hostOps0_2 σ1 = σ2 at *
  obtain ⟨h3_v4, h3_v6, h3_c_2, h3_v0, h3_v1, h3_v2, h3_arg0, h3_arg1, h3_arg2, h3_arg3⟩ := stretch3 σ2
  generalize StableHlo.after hostOps0_3 σ2 = σ3 at *
  obtain ⟨h4_v7, h4_v0, h4_v1, h4_v2, h4_v4, h4_arg0, h4_arg1, h4_arg2, h4_arg3⟩ := stretch4 σ3
  generalize StableHlo.after hostOps0_4 σ3 = σ4 at *
  obtain ⟨h5_v10, h5_c_4, h5_v0, h5_v1, h5_v2, h5_v4, h5_arg0, h5_arg1, h5_arg2, h5_arg3⟩ := stretch5 σ4
  generalize StableHlo.after hostOps0_5 σ4 = σ5 at *
  obtain ⟨h6_v11, h6_v0, h6_v1, h6_v2, h6_arg0, h6_arg1, h6_arg2, h6_arg3⟩ := stretch6 σ5
  generalize StableHlo.after hostOps0_6 σ5 = σ6 at *
  obtain ⟨h7_v12, h7_v0, h7_v1, h7_v2, h7_v11, h7_arg0, h7_arg1, h7_arg2, h7_arg3⟩ := stretch7 σ6
  generalize StableHlo.after hostOps0_7 σ6 = σ7 at *
  obtain ⟨h8_v13, h8_v25, h8_v49, h8_v0, h8_v1, h8_arg0, h8_arg1, h8_arg2, h8_arg3⟩ := stretch8 σ7
  generalize StableHlo.after hostOps0_8 σ7 = σ8 at *
  refine ⟨?_, ?_, ?_, ?_, ?_, ?_, ?_, ?_, ?_⟩
  · rw [h8_arg0, h7_arg0, h6_arg0, h5_arg0, h4_arg0, h3_arg0, h2_arg0, h1_arg0, h0_arg0]
  · rw [h8_arg1, h7_arg1, h6_arg1, h5_arg1, h4_arg1, h3_arg1, h2_arg1, h1_arg1, h0_arg1]
  · rw [h8_arg2, h7_arg2, h6_arg2, h5_arg2, h4_arg2, h3_arg2, h2_arg2, h1_arg2, h0_arg2]
  · rw [h8_arg3, h7_arg3, h6_arg3, h5_arg3, h4_arg3, h3_arg3, h2_arg3, h1_arg3, h0_arg3]
  · rw [h8_v0, h7_v0, h6_v0, h5_v0, h4_v0, h3_v0, h2_v0, h1_v0, h0_v0]; rfl
  · rw [h8_v1, h7_v1, h6_v1, h5_v1, h4_v1, h3_v1, h2_v1, h1_v1, h0_v0, h0_arg1]; rfl
  · rw [h8_v13, h7_v12, h6_v11, h5_v4, h5_v10, h5_c_4, h4_v4, h4_v7, h4_v2, h3_v4, h3_v6, h3_c_2, h3_v2, h2_arg1, h2_v0, h2_v2, h1_arg1, h1_v0, h1_v1, h1_c, h0_arg1, h0_v0]; rfl
  · rw [h8_v25, h7_v12, h6_v11, h5_v4, h5_v10, h5_c_4, h4_v4, h4_v7, h4_v2, h3_v4, h3_v6, h3_c_2, h3_v2, h2_arg1, h2_v0, h2_v2, h1_arg1, h1_v0, h1_v1, h1_c, h0_arg1, h0_v0]; rfl
  · rw [h8_v49, h7_v12, h7_v2, h7_v11, h6_v11, h6_v2, h5_v4, h5_v10, h5_c_4, h5_v2, h4_v4, h4_v7, h4_v2, h3_v4, h3_v6, h3_c_2, h3_v2, h2_arg1, h2_v0, h2_v2, h1_arg1, h1_v0, h1_v1, h1_c, h0_arg1, h0_v0]; rfl
theorem V_arg0 (c : Dev nD) : V m c main_arg0 = m ((c : Thread nD τ).loc main_arg0) := (V_eq m c _).trans (stretches _).1
theorem V_arg1 (c : Dev nD) : V m c main_arg1 = m ((c : Thread nD τ).loc main_arg1) := (V_eq m c _).trans (stretches _).2.1
theorem V_arg2 (c : Dev nD) : V m c main_arg2 = m ((c : Thread nD τ).loc main_arg2) := (V_eq m c _).trans (stretches _).2.2.1
theorem V_arg3 (c : Dev nD) : V m c main_arg3 = m ((c : Thread nD τ).loc main_arg3) := (V_eq m c _).trans (stretches _).2.2.2.1
theorem V_v0 (c : Dev nD) : V m c main_v0 = Tables.ends (m ((c : Thread nD τ).loc main_arg1)) := (V_eq m c _).trans (stretches _).2.2.2.2.1
theorem V_v1 (c : Dev nD) : V m c main_v1 = Tables.starts (m ((c : Thread nD τ).loc main_arg1)) := (V_eq m c _).trans (stretches _).2.2.2.2.2.1
theorem V_v13 (c : Dev nD) : V m c main_v13 = Tables.visits (m ((c : Thread nD τ).loc main_arg1)) := (V_eq m c _).trans (stretches _).2.2.2.2.2.2.1
theorem V_v25 (c : Dev nD) : V m c main_v25 = Tables.expert (m ((c : Thread nD τ).loc main_arg1)) := (V_eq m c _).trans (stretches _).2.2.2.2.2.2.2.1
theorem V_v49 (c : Dev nD) : V m c main_v49 = Tables.tile (m ((c : Thread nD τ).loc main_arg1)) := (V_eq m c _).trans (stretches _).2.2.2.2.2.2.2.2

end Cert.KernelIdeal.Entry

end

end
-- ==== Proof.Points.lean ====
/-
  The words a grid point reads from the host's tables, in natural numbers, and the conditions of the body on them.
-/
module

public import proofs.«01_k».proof.Proof.Body
public import proofs.«01_k».proof.Proof.Entry

@[expose] public section

set_option maxRecDepth 16384

noncomputable section

namespace Cert.KernelIdeal.Points

open Idealize.ShloMosaic Idealize.ShloMosaic.TcCoe Idealize.ShloMosaic.WordCmp
open Idealize.ShloMosaic.ValueIdx
open Cert.KernelIdeal Cert.KernelIdeal.Gen Cert.KernelIdeal.Facts₀ Cert.KernelIdeal.Body Cert.Visits

variable {F : FTy → Type} [FloatOps F]
variable (m : (ℓ : Loc nD τ sig) → Buf (Elt F) ℓ)

/-- The group sizes as launched. -/
abbrev sizes (c : Dev nD) : IVec S16 32 := m ((c : Thread nD τ).loc main_arg1)

/-- The group sizes as launched, as natural numbers. -/
def size (c : Dev nD) (i : ℕ) : ℕ := if h : i < 16 then (sizes m c (ix1 ⟨i, h⟩)).toNat else 0

theorem size_ap (c : Dev nD) (i : Fin 16) : sizes m c (ix1 i) = BitVec.ofNat 32 (size m c i.val) := by
  unfold size
  rw [dif_pos i.isLt, BitVec.ofNat_toNat, BitVec.setWidth_eq]

/-- The group sizes add up to the number of rows. -/
def Ok : Prop := ∀ c : Dev nD, pre (size m c) 16 = 4096

/-- The host's tables when the grid starts. -/
def pf (c : Dev nD) : pre0.Contents (Elt F) := fun k => Entry.V m c (pre0.ref k)

section
variable {m} (hO : Ok m) (c : Dev nD)
include hO

theorem pf0 (v : Fin 31) : (pf m c 0 : IVec S31 32) (ix1 v) = BitVec.ofNat 32 (gid (size m c) v.val) :=
  (congrFun (Entry.V_v25 m c) (ix1 v)).trans (Tables.expert_ap (size_ap m c) (hO c) v)

theorem pf1 (v : Fin 31) : (pf m c 1 : IVec S31 32) (ix1 v) = BitVec.ofNat 32 (tid (size m c) v.val) :=
  (congrFun (Entry.V_v49 m c) (ix1 v)).trans (Tables.tile_ap (size_ap m c) (hO c) v)

omit hO in
theorem pf2 (v : Fin 16) : (pf m c 2 : IVec S16 32) (ix1 v) = BitVec.ofNat 32 (pre (size m c) v.val) :=
  (congrFun (Entry.V_v1 m c) (ix1 v)).trans (Tables.starts_ap (size_ap m c) v)

omit hO in
theorem pf3 (v : Fin 16) : (pf m c 3 : IVec S16 32) (ix1 v) = BitVec.ofNat 32 (pre (size m c) (v.val + 1)) :=
  (congrFun (Entry.V_v0 m c) (ix1 v)).trans (Tables.ends_ap (size_ap m c) v)

theorem pf4 : (pf m c 4 : IVec S1 32) (ix1 0) = BitVec.ofNat 32 (nv (size m c)) :=
  (congrFun (Entry.V_v13 m c) (ix1 0)).trans (Tables.visits_ap (size_ap m c) (hO c))

end

/-- A unit rectangle of a line at an offset below the extent is the index there. -/
theorem emb_unit1 {n : ℕ} (o : ℕ) (ho : o < n) (off : Fin 1 → ℕ) (he : off = ![o]) (inb : ∀ a, off a + S1.size a ≤ (⟨1, ![n]⟩ : Shape).size a)
    (j : (Rect.unit (s := ⟨1, ![n]⟩) off S1.size inb).shape.Idx) : (Rect.unit (s := ⟨1, ![n]⟩) off S1.size inb).emb j = ix1 ⟨o, ho⟩ := by
  subst he
  funext a
  fin_cases a
  apply Fin.ext
  have hj : (j 0).val = 0 := by have := (j 0).isLt; change (j 0).val < 1 at this; omega
  show o + 1 * (j 0).val = o
  omega

/-- The previous grid point, the first one being its own. -/
theorem off2_eq (i : grid0.Coords) : k0_off2 i = ![(i 0).val - 1] := by
  have hi := (i 0).isLt
  change (i 0).val < 31 at hi
  have key : ∀ k : Fin 31, (Scalar.indexCast (Scalar.maxsi (Scalar.subi (BitVec.ofNat 32 k.val) 1#32) 0#32) : BitVec 32).toNat = k.val - 1 := by decide
  unfold k0_off2
  exact congrArg (fun n => ![n]) (key ⟨(i 0).val, hi⟩)

/-- The body is active at the visits. -/
theorem cond3_iff (i : grid0.Coords) (n : ℕ) (hn : n ≤ 31) : k0_cond3 i (BitVec.ofNat 32 n) = 1#1 ↔ (i 0).val < n := by
  have hi := (i 0).isLt
  change (i 0).val < 31 at hi
  have key : ∀ (k : Fin 31) (n : Fin 32), (Scalar.cmpi .ne (Scalar.extui (Scalar.cmpi .slt (BitVec.ofNat 32 k.val) (BitVec.ofNat 32 n.val)) : BitVec 32) 0#32) = 1#1 ↔ k.val < n.val := by decide +kernel
  exact key ⟨(i 0).val, hi⟩ ⟨n, by omega⟩

/-- A scratch is refilled at the first visit and where its table word is new. -/
theorem fires_iff (i : grid0.Coords) (n p w : ℕ) (hn : n ≤ 31) (hp : p < 32) (hw : w < 32) :
    fires i (BitVec.ofNat 32 n) (BitVec.ofNat 32 p) (BitVec.ofNat 32 w) = 1#1 ↔ (i 0).val < n ∧ ((i 0).val = 0 ∨ p ≠ w) := by
  have hi := (i 0).isLt
  change (i 0).val < 31 at hi
  have k1 : ∀ (k : Fin 31) (n : Fin 32), Scalar.cmpi .slt (BitVec.ofNat 32 k.val) (BitVec.ofNat 32 n.val) = BitVec.ofBool (decide (k.val < n.val)) := by decide +kernel
  have k2 : ∀ (k n : Fin 32), Scalar.cmpi .ne (BitVec.ofNat 32 k.val) (BitVec.ofNat 32 n.val) = BitVec.ofBool (decide (k.val ≠ n.val)) := by decide +kernel
  have k3 : ∀ (k : Fin 31), Scalar.cmpi .eq (BitVec.ofNat 32 k.val) 0#32 = BitVec.ofBool (decide (k.val = 0)) := by decide +kernel
  have k4 : ∀ a b d : Bool, Scalar.cmpi .ne (Scalar.extui (Scalar.andi (BitVec.ofBool a) (Scalar.ori (BitVec.ofBool b) (BitVec.ofBool d))) : BitVec 32) 0#32 = 1#1 ↔ (a = true ∧ (b = true ∨ d = true)) := by decide +kernel
  unfold fires
  rw [k1 ⟨(i 0).val, hi⟩ ⟨n, by omega⟩, k2 ⟨p, hp⟩ ⟨w, hw⟩, k3 ⟨(i 0).val, hi⟩, k4]
  simp

/-- The block's payload, where it starts a new tile, does not read the block. -/
theorem pay4_fresh (i : grid0.Coords) (t p : ℕ) (ht : t < 32) (hp : p < 32) (h : (i 0).val = 0 ∨ p ≠ t) (a : Vec F S256x3072 .bf16)
    (b : Vec F S3072x1408 .bf16) (d : Vec F S256x1 .f32) (lo hi : BitVec 32) (o o' : Vec F S256x1408 .bf16) :
    k0_pay4 i (BitVec.ofNat 32 t) (BitVec.ofNat 32 p) a b d lo hi o = k0_pay4 i (BitVec.ofNat 32 t) (BitVec.ofNat 32 p) a b d lo hi o' := by
  have hi := (i 0).isLt
  change (i 0).val < 31 at hi
  have k2 : ∀ (k n : Fin 32), Scalar.cmpi .ne (BitVec.ofNat 32 k.val) (BitVec.ofNat 32 n.val) = BitVec.ofBool (decide (k.val ≠ n.val)) := by decide +kernel
  have k3 : ∀ (k : Fin 31), Scalar.cmpi .eq (BitVec.ofNat 32 k.val) 0#32 = BitVec.ofBool (decide (k.val = 0)) := by decide +kernel
  have k4 : ∀ b d : Bool, (b = true ∨ d = true) → Scalar.ori (BitVec.ofBool b) (BitVec.ofBool d) = 1#1 := by decide +kernel
  have e : Scalar.ori (Scalar.cmpi .eq (BitVec.ofNat 32 (i 0).val) 0#32) (Scalar.cmpi .ne (BitVec.ofNat 32 p) (BitVec.ofNat 32 t)) = 1#1 := by
    rw [k2 ⟨p, hp⟩ ⟨t, ht⟩, k3 ⟨(i 0).val, hi⟩, k4]
    simpa using h
  unfold k0_pay4
  simp only [e]
  rfl

end Cert.KernelIdeal.Points

end

end
-- ==== Proof.Config.lean ====
/-
  The grid at the host's tables: the tables are admissible, which blocks each point takes, and the words the body
  reads there.
-/
module

public import proofs.«01_k».proof.Proof.Points
public import Idealize.ShloMosaic.Lib.PairWhole
public import Idealize.ShloMosaic.Lib.Pipeline.TableIdle

@[expose] public section

set_option maxRecDepth 16384

noncomputable section

namespace Cert.KernelIdeal.Config

open Idealize.ShloMosaic Idealize.ShloMosaic.TcCoe
open Idealize.ShloMosaic.ValueIdx
open Cert.KernelIdeal Cert.KernelIdeal.Gen Cert.KernelIdeal.Body Cert.KernelIdeal.Points Cert.Visits

variable {F : FTy → Type} [FloatOps F]
variable {m : (ℓ : Loc nD τ sig) → Buf (Elt F) ℓ} (hO : Ok m)

/-! ## The blocks of the windows -/

section
include hO

theorem word_gid (i : grid0.Coords) (off : Fin 1 → ℕ) (k : ℕ) (hk : k < 31) (he : off = ![k]) (h : ∀ a, off a + S1.size a ≤ S31.size a)
    (j : (Rect.unit (s := S31) off S1.size h).shape.Idx) :
    (pf m 0 0 : IVec S31 32) ((Rect.unit (s := S31) off S1.size h).emb j) = BitVec.ofNat 32 (gid (size m 0) k) := by
  rw [emb_unit1 k hk off he]
  exact pf0 hO 0 ⟨k, hk⟩

theorem word_tid (i : grid0.Coords) (off : Fin 1 → ℕ) (k : ℕ) (hk : k < 31) (he : off = ![k]) (h : ∀ a, off a + S1.size a ≤ S31.size a)
    (j : (Rect.unit (s := S31) off S1.size h).shape.Idx) :
    (pf m 0 1 : IVec S31 32) ((Rect.unit (s := S31) off S1.size h).emb j) = BitVec.ofNat 32 (tid (size m 0) k) := by
  rw [emb_unit1 k hk off he]
  exact pf1 hO 0 ⟨k, hk⟩

theorem gid16 (v : ℕ) : gid (size m 0) v < 16 := gid_lt (hO 0) v
theorem tid16 (v : ℕ) : tid (size m 0) v < 16 := tid_lt (hO 0) v

theorem ofNat_toNat (n : ℕ) (h : n < 32) : (BitVec.ofNat 32 n).toNat = n := by
  rw [BitVec.toNat_ofNat]; omega

theorem transform_0 (i : grid0.Coords) : cc0_transform_0 k0_off1_inb numel1_S1 (pf m 0) i = ![tid (size m 0) (i 0).val, 0] := by
  unfold cc0_transform_0
  refine congrArg (fun n => ![n, 0]) ((congrArg BitVec.toNat (word_tid hO i _ (i 0).val (i 0).isLt (k0_off1_eq i) (k0_off1_inb i) _)).trans ?_)
  exact ofNat_toNat hO _ (Nat.lt_trans (tid16 hO _) (by decide))

theorem transform_3 (i : grid0.Coords) : cc0_transform_3 k0_off1_inb numel1_S1 (pf m 0) i = ![tid (size m 0) (i 0).val, 0] := by
  unfold cc0_transform_3
  refine congrArg (fun n => ![n, 0]) ((congrArg BitVec.toNat (word_tid hO i _ (i 0).val (i 0).isLt (k0_off1_eq i) (k0_off1_inb i) _)).trans ?_)
  exact ofNat_toNat hO _ (Nat.lt_trans (tid16 hO _) (by decide))

theorem transform_1 (i : grid0.Coords) : cc0_transform_1 k0_off1_inb numel1_S1 (pf m 0) i = ![gid (size m 0) (i 0).val, 0, 0] := by
  unfold cc0_transform_1
  refine congrArg (fun n => ![n, 0, 0]) ((congrArg BitVec.toNat (word_gid hO i _ (i 0).val (i 0).isLt (k0_off1_eq i) (k0_off1_inb i) _)).trans ?_)
  exact ofNat_toNat hO _ (Nat.lt_trans (gid16 hO _) (by decide))

theorem transform_2 (i : grid0.Coords) : cc0_transform_2 k0_off1_inb numel1_S1 (pf m 0) i = ![gid (size m 0) (i 0).val, 0, 0] := by
  unfold cc0_transform_2
  refine congrArg (fun n => ![n, 0, 0]) ((congrArg BitVec.toNat (word_gid hO i _ (i 0).val (i 0).isLt (k0_off1_eq i) (k0_off1_inb i) _)).trans ?_)
  exact ofNat_toNat hO _ (Nat.lt_trans (gid16 hO _) (by decide))

/-- The host's tables name blocks inside the arrays. -/
theorem ok : ok0 (pf m 0) := by
  refine ⟨fun i => ⟨?_, Or.inr (Rect.packedRows_of_rowAxis _ _ (by decide) ?_ ?_ rfl).wholeWords⟩,
    fun i => ⟨?_, Or.inr (Rect.packedRows_of_rowAxis _ _ (by decide) ?_ ?_ rfl).wholeWords⟩,
    fun i => ⟨?_, Or.inl rfl⟩,
    fun i => ⟨?_, Or.inr (Rect.packedRows_of_rowAxis _ _ (by decide) ?_ ?_ rfl).wholeWords⟩⟩
  · rw [transform_0 hO]
    have := tid16 hO (i 0).val
    intro a; fin_cases a
    · show (tid (size m 0) (i 0).val + 1) * 256 ≤ 4096; omega
    · show (0 + 1) * 3072 ≤ 3072; omega
  · show EltTy.packing .bf16 ∣ cc0_transform_0 k0_off1_inb numel1_S1 (pf m 0) i 0 * 256
    exact Nat.dvd_trans (by decide) (Nat.dvd_mul_left 256 _)
  · show EltTy.packing .bf16 ∣ 256
    decide
  · rw [transform_1 hO]
    have := gid16 hO (i 0).val
    intro a; fin_cases a
    · show (gid (size m 0) (i 0).val + 1) * 1 ≤ 16; omega
    · show (0 + 1) * 1536 ≤ 1536; omega
    · show (0 + 1) * 1408 ≤ 1408; omega
  · show EltTy.packing .i8 ∣ cc0_transform_1 k0_off1_inb numel1_S1 (pf m 0) i 1 * 1536
    exact Nat.dvd_trans (by decide) (Nat.dvd_mul_left 1536 _)
  · show EltTy.packing .i8 ∣ 1536
    decide
  · rw [transform_2 hO]
    have := gid16 hO (i 0).val
    intro a; fin_cases a
    · show (gid (size m 0) (i 0).val + 1) * 1 ≤ 16; omega
    · show (0 + 1) * 24 ≤ 24; omega
    · show (0 + 1) * 1408 ≤ 1408; omega
  · rw [transform_3 hO]
    have := tid16 hO (i 0).val
    intro a; fin_cases a
    · show (tid (size m 0) (i 0).val + 1) * 256 ≤ 4096; omega
    · show (0 + 1) * 1408 ≤ 1408; omega
  · show EltTy.packing .bf16 ∣ cc0_transform_3 k0_off1_inb numel1_S1 (pf m 0) i 0 * 256
    exact Nat.dvd_trans (by decide) (Nat.dvd_mul_left 256 _)
  · show EltTy.packing .bf16 ∣ 256
    decide

end

/-- The host's tables, as the contents the grid runs at. -/
abbrev adm : (pcfg0 (F := F)).Adm := ⟨pf m 0, ok hO⟩

/-- The grid at the host's tables. -/
abbrev cfgA : Pipeline.Cfg sig Λ₀ := cfg0 (adm hO)

/-- Point `n` of the grid (its last point beyond it). -/
def pt (n : ℕ) : Fin (cfgA hO).N := ⟨min n 30, by rw [show (cfgA hO).N = 31 from N_0]; omega⟩

theorem lt31 (t : Fin (cfgA hO).N) : t.val < 31 := lt_of_lt_of_eq t.isLt N_0

theorem pt_val (t : Fin (cfgA hO).N) : pt hO t.val = t := Fin.ext (by have := lt31 hO t; show min t.val 30 = t.val; omega)

/-- The point's coordinate is its number. -/
theorem coords_val (t : Fin (cfgA hO).N) : ((cfgA hO).grid.coords t 0).val = t.val := by
  have h := Pipeline.Grid.coords_val (G := grid0) t 0 (S := 1) (B := 31) (by decide) (by rfl)
  rw [show ((cfgA hO).grid.coords t 0).val = (grid0.coords t 0).val from rfl, h]
  have := lt31 hO t; omega

theorem coords_pt (n : ℕ) (hn : n < 31) : ((cfgA hO).grid.coords (pt hO n) 0).val = n := by
  rw [coords_val]; show min n 30 = n; omega

end Cert.KernelIdeal.Config

end

end
-- ==== Proof.Run.lean ====
/-
  The kernel's run: what its scratch and its output block hold after each grid point, the body's triple restated at
  those contents, and the launch: every execution ends, with the arguments as launched and the output array at what the
  blocks written back leave.
-/
module

public import proofs.«01_k».proof.Proof.Config
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline
open Cert.KernelIdeal Cert.KernelIdeal.Gen Cert.KernelIdeal.Body Cert.KernelIdeal.Points Cert.KernelIdeal.Config Cert.Visits

variable {F : FTy → Type} [FloatOps F]

/-- The assertions the run is stated in. -/
abbrev Asrt (F : FTy → Type) [FloatOps F] : Type := sProp (MT nD τ sig Unit (Elt F) ℕ (UR sig nD τ) ℕ)

attribute [local irreducible] Points.pf

variable {m : (ℓ : Loc nD τ sig) → Buf (Elt F) ℓ} (hO : Ok m) (c : Dev nD)

/-! ## What each point leaves -/

/-- Window `w`'s block at point `t`, of the arrays as the grid finds them. -/
def iblk (w : Fin (cfgA hO).W) (t : Fin (cfgA hO).N) : (((cfgA hO).win w).xblock ((cfgA hO).grid.coords t)).Idx → Elt F ((cfgA hO).win w).elt :=
  (((cfgA hO).win w).blk t).view.read (Elt F) (Entry.V m c (Pipeline.arrRef spec0 w))

/-- The activations' block at point `n`. -/
def x0 (n : ℕ) : Vec F S256x3072 .bf16 := iblk hO c 0 (pt hO n)
/-- The packed weights' block at point `n`. -/
def x1 (n : ℕ) : Vec F S1x1536x1408 .i8 := iblk hO c 1 (pt hO n)
/-- The weights' scales' block at point `n`. -/
def x2 (n : ℕ) : Vec F S1x24x1408 .f32 := iblk hO c 2 (pt hO n)

/-- A new expert's weights are unpacked at point `n`. -/
def newG (n : ℕ) : Prop := n < nv (size m 0) ∧ (n = 0 ∨ gid (size m 0) (n - 1) ≠ gid (size m 0) n)
/-- A new tile's rows are quantised at point `n`. -/
def newT (n : ℕ) : Prop := n < nv (size m 0) ∧ (n = 0 ∨ tid (size m 0) (n - 1) ≠ tid (size m 0) n)

instance (n : ℕ) : Decidable (newG (m := m) n) := by unfold newG; infer_instance
instance (n : ℕ) : Decidable (newT (m := m) n) := by unfold newT; infer_instance

/-- The unpacked weights after point `n`. -/
def Wt : ℕ → Vec F S3072x1408 .bf16
  | 0 => deq (x1 hO c 0) (x2 hO c 0)
  | n + 1 => if newG (m := m) (n + 1) then deq (x1 hO c (n + 1)) (x2 hO c (n + 1)) else Wt n
/-- The quantised rows after point `n`. -/
def Xq : ℕ → Vec F S256x3072 .bf16
  | 0 => qx (x0 hO c 0)
  | n + 1 => if newT (m := m) (n + 1) then qx (x0 hO c (n + 1)) else Xq n
/-- The rows' scales after point `n`. -/
def Sc : ℕ → Vec F S256x1 .f32
  | 0 => qs (x0 hO c 0)
  | n + 1 => if newT (m := m) (n + 1) then qs (x0 hO c (n + 1)) else Sc n

/-- What a visit at point `n` makes of the output block `o`. -/
def put (n : ℕ) (o : Vec F S256x1408 .bf16) : Vec F S256x1408 .bf16 :=
  k0_pay4 ((cfgA hO).grid.coords (pt hO n)) (BitVec.ofNat 32 (tid (size m 0) n)) (BitVec.ofNat 32 (tid (size m 0) (n - 1))) (Xq hO c n) (Wt hO c n) (Sc hO c n)
    (BitVec.ofNat 32 (pre (size m 0) (gid (size m 0) n))) (BitVec.ofNat 32 (pre (size m 0) (gid (size m 0) n + 1))) o

/-- The output block after point `n`. -/
def Ob : ℕ → Vec F S256x1408 .bf16
  | 0 => put hO c 0 (iblk hO c 3 (pt hO 0))
  | n + 1 => if n + 1 < nv (size m 0) then put hO c (n + 1) (Ob n) else Ob n

theorem Wt_step (n : ℕ) (X : Vec F S3072x1408 .bf16) (h : n ≠ 0 → X = Wt hO c (n - 1)) :
    (if newG (m := m) n then deq (x1 hO c n) (x2 hO c n) else X) = Wt hO c n := by
  cases n with
  | zero => rw [if_pos ⟨nv_pos (hO 0), Or.inl rfl⟩]; rfl
  | succ n => rw [h (Nat.succ_ne_zero n)]; rfl

theorem Xq_step (n : ℕ) (X : Vec F S256x3072 .bf16) (h : n ≠ 0 → X = Xq hO c (n - 1)) :
    (if newT (m := m) n then qx (x0 hO c n) else X) = Xq hO c n := by
  cases n with
  | zero => rw [if_pos ⟨nv_pos (hO 0), Or.inl rfl⟩]; rfl
  | succ n => rw [h (Nat.succ_ne_zero n)]; rfl

theorem Sc_step (n : ℕ) (X : Vec F S256x1 .f32) (h : n ≠ 0 → X = Sc hO c (n - 1)) :
    (if newT (m := m) n then qs (x0 hO c n) else X) = Sc hO c n := by
  cases n with
  | zero => rw [if_pos ⟨nv_pos (hO 0), Or.inl rfl⟩]; rfl
  | succ n => rw [h (Nat.succ_ne_zero n)]; rfl

/-! ## The proof data -/

/-- The scratch before point `n`: after the point before it, and anything at the start. -/
def Phi (n : ℕ) : Asrt F :=
  iprop((∃ X, ⌜n ≠ 0 → X = Wt hO c (n - 1)⌝ ∗ owns (c : Thread nD τ) (Memref.whole cc0_scratch0) fullShare X)
    ∗ (∃ X, ⌜n ≠ 0 → X = Xq hO c (n - 1)⌝ ∗ owns (c : Thread nD τ) (Memref.whole cc0_scratch1) fullShare X)
    ∗ (∃ X, ⌜n ≠ 0 → X = Sc hO c (n - 1)⌝ ∗ owns (c : Thread nD τ) (Memref.whole cc0_scratch2) fullShare X)
    ∗ (∃ r, prngReg c r)
    ∗ Pipeline.prefHeld pre0 c (fun _ => fullShare.right) (pf m 0))

/-- The proof data of the grid on core `c`. -/
def dats (_ : Fin 1) (c : Dev nD) : Dat τ (Elt F) Unit ℕ (UR sig nD τ) ℕ (cfgA hO) c where
  A w := Entry.V m c (Pipeline.arrRef spec0 w)
  after w t := match w with
    | ⟨0, _⟩ => iblk hO c 0 t
    | ⟨1, _⟩ => iblk hO c 1 t
    | ⟨2, _⟩ => iblk hO c 2 t
    | ⟨3, _⟩ => Ob hO c t.val
  Φ t := Phi hO c t.val
  q _ := fullShare
  owed _ := 0

theorem A_eq (w : Fin (cfgA hO).W) : (dats hO 0 c).A w = Entry.V m c (Pipeline.arrRef spec0 w) := by dsimp only [dats]
theorem after_0 (t : Fin (cfgA hO).N) : (dats hO 0 c).after 0 t = iblk hO c 0 t := by dsimp only [dats]; rfl
theorem after_1 (t : Fin (cfgA hO).N) : (dats hO 0 c).after 1 t = iblk hO c 1 t := by dsimp only [dats]; rfl
theorem after_2 (t : Fin (cfgA hO).N) : (dats hO 0 c).after 2 t = iblk hO c 2 t := by dsimp only [dats]; rfl
theorem after_3 (t : Fin (cfgA hO).N) : (dats hO 0 c).after 3 t = Ob hO c t.val := by dsimp only [dats]; rfl
theorem Phi_eq (t : Fin ((cfgA hO).N + 1)) : (dats hO 0 c).Φ t = Phi hO c t.val := by dsimp only [dats]

theorem before_0 (t : Fin (cfgA hO).N) (d) : (dats hO 0 c).before 0 t d = iblk hO c 0 t :=
  ((dats hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin (cfgA hO).N) (d) : (dats hO 0 c).before 1 t d = iblk hO c 1 t :=
  ((dats hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin (cfgA hO).N) (d) : (dats hO 0 c).before 2 t d = iblk hO c 2 t :=
  ((dats hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## Where the output block is kept and written back -/

include hO in
/-- The number of visits, as the grid reads it. -/
theorem table_4 : (pf m 0).atD 4 ![0] = BitVec.ofNat 32 (nv (size m 0)) :=
  (dif_pos (by decide)).trans ((congrArg (pf m 0 4) (funext fun a => Fin.ext (by fin_cases a; rfl))).trans (pf4 hO 0))

theorem idle_eq : (cfgA hO).idle = idle0 (pf m 0) := rfl

theorem idle0_3 (i : grid0.Coords) : idle0 (pf m 0) 3 i = !(k0_cond3 i ((pf m 0).atD 4 ![0]) == 1#1) := rfl

/-- The output window is idle past the last visit. -/
theorem idle_3 (t : Fin (cfgA hO).N) : (cfgA hO).idle 3 ((cfgA hO).grid.coords t) = !(decide (t.val < nv (size m 0))) := by
  have hc := cond3_iff ((cfgA hO).grid.coords t) (nv (size m 0)) (nv_le (hO 0))
  rw [coords_val] at hc
  have e : (k0_cond3 ((cfgA hO).grid.coords t) ((pf m 0).atD 4 ![0]) == 1#1) = decide (t.val < nv (size m 0)) := by
    rw [table_4 hO, Bool.eq_iff_iff, beq_iff_eq, decide_eq_true_iff]
    exact hc
  exact (congrArg (fun f => f 3 ((cfgA hO).grid.coords t)) (idle_eq hO)).trans ((idle0_3 (m := m) ((cfgA hO).grid.coords t)).trans (congrArg not e))

theorem index_3 (t : Fin (cfgA hO).N) : ((cfgA hO).win 3).index t = ![tid (size m 0) t.val, 0] := by
  have h := transform_3 hO ((cfgA hO).grid.coords t)
  rw [coords_val hO t] at h
  exact h

/-- The output block is written back at the last point and where the next point has another tile. -/
theorem flush_3 (t : Fin (cfgA hO).N) : ((cfgA hO).win 3).flush t = true ↔ (t.val = 30 ∨ tid (size m 0) (t.val + 1) ≠ tid (size m 0) t.val) := by
  have hN : (cfgA hO).grid.N = 31 := N_0
  have ht := lt31 hO t
  unfold Window.flush
  rw [show ((cfgA hO).win 3).isOut = true from rfl, Bool.true_and, Bool.or_eq_true, decide_eq_true_iff, decide_eq_true_iff]
  constructor
  · rintro (h | ⟨h, h'⟩)
    · left; omega
    · right
      intro e
      apply h'
      rw [index_3, index_3]
      exact congrArg (fun n => ![n, 0]) e
  · rintro (h | h)
    · left; omega
    · by_cases hl : t.val + 1 = (cfgA hO).grid.N
      · exact Or.inl hl
      · right
        refine ⟨by have := t.isLt; change t.val < (cfgA hO).grid.N at this; omega, ?_⟩
        rw [index_3, index_3]
        exact fun e => h (congrFun e 0)

/-- A block not kept from the point before starts a tile. -/
theorem fresh_3 (n : ℕ) : n < 31 → (cfgA hO).fresh 3 n = true → n = 0 ∨ tid (size m 0) (n - 1) ≠ tid (size m 0) n := by
  induction n with
  | zero => exact fun _ _ => Or.inl rfl
  | succ n ih =>
    intro hn h
    have hN : (cfgA hO).N = 31 := N_0
    have hlt : n < (cfgA hO).N := by omega
    rw [Pipeline.Cfg.fresh_succ _ _ _ hlt, Bool.or_eq_true, Bool.and_eq_true] at h
    right
    rcases h with h | ⟨h1, h2⟩
    · rcases (flush_3 hO _).mp h with h | h
      · exact absurd h (by show n ≠ 30; omega)
      · exact fun e => h e.symm
    · rw [idle_3, Bool.not_eq_true', decide_eq_false_iff_not, not_lt] at h1
      change nv (size m 0) ≤ n at h1
      have hp := nv_pos (hO 0)
      rcases ih (by omega) h2 with h | h
      · omega
      · obtain ⟨k, rfl⟩ : ∃ k, n = k + 1 := ⟨n - 1, by omega⟩
        by_cases hk : nv (size m 0) ≤ k + 1
        · exact absurd (Visits.idle_eq hk).2.symm h
        · omega

theorem carry_3 (t : Fin (cfgA hO).N) (ht : t.val ≠ 0) (hi : (cfgA hO).idle 3 ((cfgA hO).grid.coords t) = true) :
    (dats hO 0 c).after 3 t = (dats hO 0 c).after 3 ⟨t.val - 1, by omega⟩ := by
  rw [idle_3, Bool.not_eq_true', decide_eq_false_iff_not] at hi
  rw [after_3, after_3]
  show Ob hO c t.val = Ob hO c (t.val - 1)
  obtain ⟨n, hn⟩ : ∃ n, t.val = n + 1 := ⟨t.val - 1, by omega⟩
  rw [hn] at hi ⊢
  exact if_neg hi

theorem before_3 (t : Fin (cfgA hO).N) (d) :
    (dats hO 0 c).before 3 t d = if (cfgA hO).fresh 3 t.val then d else (dats hO 0 c).after 3 ⟨t.val - 1, by omega⟩ :=
  Dat.before_out_traj (dats hO 0 c) 3 rfl (fun _ _ => rfl) (fun t ht hi _ => carry_3 hO c t ht hi) t.val t rfl d

/-! ## The body at a point -/

abbrev st_0 (t : Fin (cfgA hO).N) := ((cfgA hO).win 0).stage ((cfgA hO).slots t 0)
abbrev st_1 (t : Fin (cfgA hO).N) := ((cfgA hO).win 1).stage ((cfgA hO).slots t 1)
abbrev st_2 (t : Fin (cfgA hO).N) := ((cfgA hO).win 2).stage ((cfgA hO).slots t 2)
abbrev st_3 (t : Fin (cfgA hO).N) := ((cfgA hO).win 3).stage ((cfgA hO).slots t 3)

/-- The body at point `t`, on the buffers the pipeline calls it with. -/
abbrev bodyAt (t : Fin (cfgA hO).N) : Prog (TpuEff nD τ sig (Elt F) Λ₀ .tc) PUnit :=
  cc0__body (grid0.coords t) (Memref.whole main_v25) (Memref.isWhole_whole _) (Memref.whole main_v49) (Memref.isWhole_whole _)
    (Memref.whole main_v1) (Memref.isWhole_whole _) (Memref.whole main_v0) (Memref.isWhole_whole _) (Memref.whole main_v13) (Memref.isWhole_whole _)
    (st_0 hO t) (hstage0_0 (((cfgA hO).slots t 0).cast nbuf0_0)) (st_1 hO t) (hstage0_1 (((cfgA hO).slots t 1).cast nbuf0_1))
    (st_2 hO t) (hstage0_2 (((cfgA hO).slots t 2).cast nbuf0_2)) (st_3 hO t) (hstage0_3 (((cfgA hO).slots t 3).cast nbuf0_3))
    (Memref.whole cc0_scratch0) (Memref.isWhole_whole _) (Memref.whole cc0_scratch1) (Memref.isWhole_whole _) (Memref.whole cc0_scratch2) (Memref.isWhole_whole _)

theorem defs₀_row (t : Fin (cfgA hO).N) :
    defs₀ (F := F) .tc (cfgA hO).body ((cfgA hO).bodyArgs t ((cfgA hO).slots t)) = bodyAt hO t := by
  unfold defs₀; rw [Defs.onTc_tc]; rfl

/-- The tables as the body reads them, one by one. -/
theorem prefHeld_eq (q : Fin 5 → PosShare TreeShare) (v : pre0.Contents (Elt F)) :
    (Pipeline.prefHeld pre0 c q v : Asrt F)
      = iprop((((c : Thread nD τ).loc main_v25) ↦{q 0} v 0) ∗ (((c : Thread nD τ).loc main_v49) ↦{q 1} v 1) ∗ (((c : Thread nD τ).loc main_v1) ↦{q 2} v 2)
          ∗ (((c : Thread nD τ).loc main_v0) ↦{q 3} v 3) ∗ (((c : Thread nD τ).loc main_v13) ↦{q 4} v 4)) := by
  unfold Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-- A visit that starts a tile ignores what the block held; another finds what the point before left. -/
theorem Ob_step (n : ℕ) (hn : n < nv (size m 0)) (o : Vec F S256x1408 .bf16)
    (h : (n = 0 ∨ tid (size m 0) (n - 1) ≠ tid (size m 0) n) ∨ o = Ob hO c (n - 1)) : put hO c n o = Ob hO c n := by
  have h31 := nv_le (hO 0)
  have h1 := tid16 hO n
  have h2 := tid16 hO (n - 1)
  have hf : (n = 0 ∨ tid (size m 0) (n - 1) ≠ tid (size m 0) n) → ∀ o', put hO c n o = put hO c n o' := fun h o' => by
    unfold put
    refine pay4_fresh _ _ _ (by omega) (by omega) ?_ _ _ _ _ _ _ _
    rw [coords_pt hO n (by omega)]
    exact h
  cases n with
  | zero => exact hf (Or.inl rfl) _
  | succ n =>
    rw [show Ob hO c (n + 1) = put hO c (n + 1) (Ob hO c n) from if_pos hn]
    rcases h with h | h
    · exact hf h _
    · rw [h]; rfl

/-- What the body leaves in the output's buffer is what the proof data state. -/
theorem leave_3 (t : Fin (cfgA hO).N) (d) (B Y : Vec F S256x1408 .bf16) (hB : B = (dats hO 0 c).before 3 t d)
    (hY : Y = if t.val < nv (size m 0) then put hO c t.val B else B) :
    owns (c : Thread nD τ) (st_3 hO t) fullShare Y ⊢ (dats hO 0 c).leavesExact 3 t := by
  have hi := idle_3 hO t
  have hb := hB.trans (before_3 hO c t d)
  have hf := fresh_3 hO t.val (lt31 hO t)
  by_cases h : t.val < nv (size m 0)
  · rw [decide_eq_true h] at hi
    replace hY := hY.trans (if_pos h)
    have e : Y = (dats hO 0 c).after 3 t := by
      rw [hY, after_3]
      refine Ob_step hO c t.val h _ ?_
      rw [hb]
      by_cases hfr : (cfgA hO).fresh 3 t.val = true
      · exact Or.inl (hf hfr)
      · rw [if_neg hfr, after_3]
        exact Or.inr rfl
    rw [e]
    unfold Dat.leavesExact
    rw [hi]
    exact .rfl
  · rw [decide_eq_false h] at hi
    replace hY := hY.trans (if_neg h)
    cases hfl : ((cfgA hO).win 3).flush t with
    | false =>
      rw [Dat.leavesExact_idle _ _ _ hi hfl]
      rw [hY, hB]
      iintro H
      iexists d
      iexact H
    | true =>
      have hp := nv_pos (hO 0)
      have ht0 : t.val ≠ 0 := by omega
      have hnf : ¬ (cfgA hO).fresh 3 t.val = true := fun hh => by
        rcases hf hh with h0 | h0
        · exact ht0 h0
        · obtain ⟨n, hn⟩ : ∃ n, t.val = n + 1 := ⟨t.val - 1, by omega⟩
          rw [hn] at h h0
          exact h0 (Visits.idle_eq (by omega)).2.symm
      rw [hY, hb, if_neg hnf, ← carry_3 hO c t ht0 hi]
      unfold Dat.leavesExact
      rw [hi, hfl]
      exact .rfl

/-- The body at any point. -/
theorem sound_body (t : Fin (cfgA hO).N) :
    iprop(Phi hO c t.val ∗ (dats hO 0 c).owesAt () t.castSucc
        ∗ (∃ d, owns (c : Thread nD τ) (st_0 hO t) fullShare ((dats hO 0 c).before 0 t d))
        ∗ (∃ d, owns (c : Thread nD τ) (st_1 hO t) fullShare ((dats hO 0 c).before 1 t d))
        ∗ (∃ d, owns (c : Thread nD τ) (st_2 hO t) fullShare ((dats hO 0 c).before 2 t d))
        ∗ (∃ d, owns (c : Thread nD τ) (st_3 hO t) fullShare ((dats hO 0 c).before 3 t d)))
      ⊢ wp frame (wpE (defs₀ (F := F)) Variants.none c none) Set.univ (bodyAt hO t) (fun _ =>
        iprop(Phi hO c (t.val + 1) ∗ (dats hO 0 c).owesAt () t.succ
          ∗ owns (c : Thread nD τ) (st_0 hO t) fullShare ((dats hO 0 c).after 0 t)
          ∗ owns (c : Thread nD τ) (st_1 hO t) fullShare ((dats hO 0 c).after 1 t)
          ∗ owns (c : Thread nD τ) (st_2 hO t) fullShare ((dats hO 0 c).after 2 t)
          ∗ (dats hO 0 c).leavesExact 3 t)) := by
  have ht := lt31 hO t
  have hi : ((grid0.coords t) 0).val = t.val := coords_val hO t
  have hg16 := gid16 hO t.val
  have hp16 := gid16 hO (t.val - 1)
  have ht16 := tid16 hO t.val
  have hq16 := tid16 hO (t.val - 1)
  have hnv := nv_le (hO 0)
  have hp := pt_val hO t
  have hoff6 : k0_off6 (BitVec.ofNat 32 (gid (size m 0) t.val)) = ![gid (size m 0) t.val] :=
    congrArg (fun n => ![n]) (ofNat_toNat hO _ (by omega))
  have hfg : fires (grid0.coords t) (BitVec.ofNat 32 (nv (size m 0))) (BitVec.ofNat 32 (gid (size m 0) (t.val - 1))) (BitVec.ofNat 32 (gid (size m 0) t.val)) = 1#1 ↔ newG (m := m) t.val := by
    rw [fires_iff _ _ _ _ hnv (by omega) (by omega), hi]; rfl
  have hft : fires (grid0.coords t) (BitVec.ofNat 32 (nv (size m 0))) (BitVec.ofNat 32 (tid (size m 0) (t.val - 1))) (BitVec.ofNat 32 (tid (size m 0) t.val)) = 1#1 ↔ newT (m := m) t.val := by
    rw [fires_iff _ _ _ _ hnv (by omega) (by omega), hi]; rfl
  have hc3 : k0_cond3 (grid0.coords t) (BitVec.ofNat 32 (nv (size m 0))) = 1#1 ↔ t.val < nv (size m 0) := by
    rw [cond3_iff _ _ hnv, hi]
  simp only [before_0, before_1, before_2]
  rw [show (dats hO 0 c).owesAt () t.succ = (dats hO 0 c).owesAt () t.castSucc from rfl, after_0, after_1, after_2]
  unfold Phi
  rw [prefHeld_eq]
  iintro ⟨⟨⟨%X10, %h10, H10⟩, ⟨%X11, %h11, H11⟩, ⟨%X12, %h12, H12⟩, Hr, T0, T1, T2, T3, T4⟩, Ho, ⟨%d0, H0⟩, ⟨%d1, H1⟩, ⟨%d2, H2⟩, ⟨%d3, H3⟩⟩
  obtain ⟨B, hB⟩ : ∃ B : Vec F S256x1408 .bf16, B = (dats hO 0 c).before 3 t d3 := ⟨_, rfl⟩
  iapply (Body.run c Set.univ (grid0.coords t) (Memref.whole main_v25) (Memref.isWhole_whole _) (Memref.whole main_v49) (Memref.isWhole_whole _)
    (Memref.whole main_v1) (Memref.isWhole_whole _) (Memref.whole main_v0) (Memref.isWhole_whole _) (Memref.whole main_v13) (Memref.isWhole_whole _)
    (st_0 hO t) (hstage0_0 (((cfgA hO).slots t 0).cast nbuf0_0)) (st_1 hO t) (hstage0_1 (((cfgA hO).slots t 1).cast nbuf0_1))
    (st_2 hO t) (hstage0_2 (((cfgA hO).slots t 2).cast nbuf0_2)) (st_3 hO t) (hstage0_3 (((cfgA hO).slots t 3).cast nbuf0_3))
    (Memref.whole cc0_scratch0) (Memref.isWhole_whole _) (Memref.whole cc0_scratch1) (Memref.isWhole_whole _) (Memref.whole cc0_scratch2) (Memref.isWhole_whole _)
    (pf m 0 0) (pf m 0 1) (pf m 0 2) (pf m 0 3) (pf m 0 4)
    (iblk hO c 0 t) (iblk hO c 1 t) (iblk hO c 2 t) B X10 X11 X12 fullShare.right
    (BitVec.ofNat 32 (gid (size m 0) t.val)) (BitVec.ofNat 32 (gid (size m 0) (t.val - 1)))
    (BitVec.ofNat 32 (tid (size m 0) t.val)) (BitVec.ofNat 32 (tid (size m 0) (t.val - 1))) (BitVec.ofNat 32 (nv (size m 0)))
    (BitVec.ofNat 32 (pre (size m 0) (gid (size m 0) t.val))) (BitVec.ofNat 32 (pre (size m 0) (gid (size m 0) t.val + 1)))
    (word_gid hO (grid0.coords t) _ t.val ht ((k0_off1_eq _).trans (by rw [hi])) _ _)
    (word_gid hO (grid0.coords t) _ (t.val - 1) (by omega) ((off2_eq _).trans (by rw [hi])) _ _)
    (word_tid hO (grid0.coords t) _ t.val ht ((k0_off1_eq _).trans (by rw [hi])) _ _)
    (word_tid hO (grid0.coords t) _ (t.val - 1) (by omega) ((off2_eq _).trans (by rw [hi])) _ _)
    ((congrArg (pf m 0 4) (emb_unit1 0 (by omega) _ rfl _ _)).trans (pf4 hO 0))
    (fun h => (congrArg (pf m 0 2) (emb_unit1 _ hg16 _ hoff6 h _)).trans (pf2 0 ⟨_, hg16⟩))
    (fun h => (congrArg (pf m 0 3) (emb_unit1 _ hg16 _ hoff6 h _)).trans (pf3 0 ⟨_, hg16⟩))
    (fun _ a => by rw [hoff6]; fin_cases a; show gid (size m 0) t.val + 1 ≤ 16; omega) _)
  isplitl [T0]; · iexact T0
  isplitl [T1]; · iexact T1
  isplitl [T2]; · iexact T2
  isplitl [T3]; · iexact T3
  isplitl [T4]; · iexact T4
  isplitl [H0]; · iexact H0
  isplitl [H1]; · iexact H1
  isplitl [H2]; · iexact H2
  isplitl [H3]; · rw [hB]; iexact H3
  isplitl [H10]; · iexact H10
  isplitl [H11]; · iexact H11
  isplitl [H12]; · iexact H12
  have e10 : (if newG (m := m) t.val then deq (iblk hO c 1 t) (iblk hO c 2 t) else X10) = Wt hO c t.val := by
    rw [← Wt_step hO c t.val X10 h10]; unfold x1 x2; rw [hp]
  have e11 : (if newT (m := m) t.val then qx (iblk hO c 0 t) else X11) = Xq hO c t.val := by
    rw [← Xq_step hO c t.val X11 h11]; unfold x0; rw [hp]
  have e12 : (if newT (m := m) t.val then qs (iblk hO c 0 t) else X12) = Sc hO c t.val := by
    rw [← Sc_step hO c t.val X12 h12]; unfold x0; rw [hp]
  simp only [hfg, hft, hc3, e10, e11, e12]
  iintro ⟨T0, T1, T2, T3, T4, H0, H1, H2, H3, H10, H11, H12⟩
  isplitl [T0 T1 T2 T3 T4 H10 H11 H12 Hr]
  · isplitl [H10]
    · iexists _; isplitr; swap; · iexact H10
      · ipureintro; intro _; rfl
    isplitl [H11]
    · iexists _; isplitr; swap; · iexact H11
      · ipureintro; intro _; rfl
    isplitl [H12]
    · iexists _; isplitr; swap; · iexact H12
      · ipureintro; intro _; rfl
    isplitl [Hr]; · iexact Hr
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  iapply (leave_3 hO c t d3 B _ hB (by unfold put; rw [hp]))
  iexact H3

/-- The library's body obligation, at every point. -/
theorem body_obligation : BodyObligation (dats hO 0 c) (defs₀ (F := F)) Variants.none () Set.univ := fun t => by
  rw [bigSep_W0, bigSep_W0, defs₀_row, Phi_eq, Phi_eq]
  exact triple_restated (sound_body hO c t) rfl .rfl fun _ => .rfl

end Cert.KernelIdeal.Run

end

end
-- ==== Proof.Launch.lean ====
/-
  The launch of the kernel: every execution ends, the arguments are as launched, every counter is at zero, and the output
  array holds what the blocks written back leave.
-/
module

public import proofs.«01_k».proof.Proof.Run

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.KernelIdeal.Points Cert.KernelIdeal.Config Cert.KernelIdeal.Run

variable {F : FTy → Type} [FloatOps F]
variable {m : (ℓ : Loc nD τ sig) → Buf (Elt F) ℓ} (hO : Ok m) (ρ : Dev nD → PrngReg)

/-- @main up to the grid. -/
theorem hmain : HMainP (Ix := Unit) (Name := ℕ) (U := UR sig nD τ) (Lvl := ℕ) (pcfgs (F := F)) 0 defs₀ Variants.none m (main (F := F)) (fun c b => Entry.V m c b) :=
  Pipeline.hmainP_prefixes (pcfgs (F := F)) 0 defs₀ Variants.none m main Entry.hostOps
    ⟨hostOps0_sub, hostOps0_1_sub, hostOps0_2_sub, hostOps0_3_sub, hostOps0_4_sub, hostOps0_5_sub, hostOps0_6_sub, hostOps0_7_sub, hostOps0_8_sub⟩
    (by simp only [List.Forall]; repeat' constructor) main_chain

/-- The tables when the grid starts, on every core. -/
theorem V_pre (c : Dev nD) (k : Fin 5) : Entry.V m c (pre0.ref k) = (adm hO).1 k := by
  rw [Subsingleton.elim c 0]; rfl

attribute [local irreducible] Points.pf

/-- The invariant at the first point. -/
theorem hin (c : Dev nD) : iprop(ΦA spec0 c ∗ Pipeline.prefHeld pre0 c (fun _ => fullShare.right) (pf m 0)) ⊢ (dats hO 0 c).Φ 0 := by
  rw [Phi_eq]
  unfold Phi ΦA
  rw [scopedRest0_eq]
  simp only [owns_whole]
  iintro ⟨⟨⟨⟨%a, Ha⟩, ⟨%b, Hb⟩, ⟨%d, Hd⟩⟩, Hr⟩, Hp⟩
  isplitl [Ha]
  · iexists a; isplitr; swap; · iexact Ha
    · ipureintro; intro h; exact absurd rfl h
  isplitl [Hb]
  · iexists b; isplitr; swap; · iexact Hb
    · ipureintro; intro h; exact absurd rfl h
  isplitl [Hd]
  · iexists d; isplitr; swap; · iexact Hd
    · ipureintro; intro h; exact absurd rfl h
  isplitl [Hr]; · iexact Hr
  iexact Hp

/-- The invariant at the last point gives the scratch back. -/
theorem hout (c : Dev nD) : (dats hO 0 c).Φ (Fin.last (cfgA hO).N) ⊢ ΦA spec0 c := by
  rw [Phi_eq]
  unfold Phi ΦA
  rw [scopedRest0_eq]
  simp only [owns_whole]
  iintro ⟨⟨%a, -, Ha⟩, ⟨%b, -, Hb⟩, ⟨%d, -, Hd⟩, Hr, -⟩
  isplitl [Ha Hb Hd]
  · isplitl [Ha]; · iexists a; iexact Ha
    isplitl [Hb]; · iexists b; iexact Hb
    iexists d; iexact Hd
  iexact Hr

set_option backward.isDefEq.respectTransparency.types false in
set_option maxHeartbeats 800000 in
/-- Every execution ends, with every array of the grid at what its blocks leave, every other buffer as the grid found it,
    and every counter at zero. -/
theorem run_main : θ_run defs (onTc (τ := τ) (main (F := F))) (s₀ m ρ)
    (fun r => FramePost (pin pcfgs (fun _ => adm hO)) (dats hO) 0 (fun c b => Entry.V m c b) r ∧ r.2.sem = fun _ => 0) :=
  Pipeline.θ_run_frameP_track (Q' := _) pcfgs (fun _ => adm hO) (dats hO) (0 : Fin 1) launch0 defs₀ Variants.none m ρ main
    (hbody := fun c => (body_obligation hO c).loose) (hshare := fun c => (dats hO 0 c).share_full fun _ => rfl)
    (howed := fun _ _ => rfl) (V := fun c b => Entry.V m c b) (hmain := hmain) (hA := fun c w => A_eq hO c w)
    (hpf := V_pre hO) (hin := hin hO) (hout := hout hO)

/-- The output array after the run. -/
def out (c : Dev nD) : (⟨2, ![4096, 1408]⟩ : Shape).Idx → Elt F .bf16 := (dats hO 0 c).arrAt 3 (cfgA hO).N

/-- What the run ends with: the output array and the arguments. -/
theorem values : θ_run defs (onTc (τ := τ) (main (F := F))) ⟨m, fun _ => 0, ρ⟩ (fun r => ∀ c : Dev nD,
      r.2.mem ((c.tc : Thread nD τ).loc main_v50) = out hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).1 3,
      ((h.1 c).1 0).trans (((dats hO 0 c).arrAt_in 0 rfl _).trans ((A_eq hO c 0).trans (Entry.V_arg0 m c))),
      ((h.1 c).2 main_arg1 (Pipeline.mem_restRefs_of main_arg1 (by decide) (by exact (by decide : ∀ w : Fin 4, (spec0 w).arr.view.ref ≠ main_arg1)))).trans (Entry.V_arg1 m c),
      ((h.1 c).1 1).trans (((dats hO 0 c).arrAt_in 1 rfl _).trans ((A_eq hO c 1).trans (Entry.V_arg2 m c))),
      ((h.1 c).1 2).trans (((dats hO 0 c).arrAt_in 2 rfl _).trans ((A_eq hO c 2).trans (Entry.V_arg3 m c)))⟩) (run_main hO ρ)

include hO in
/-- Every execution ends, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (values hO ρ)) ((θ_run defs _ _).mono (fun _ h => h.2) (run_main hO ρ))

end Cert.KernelIdeal.Launch

end

end
-- ==== Proof.BodyK.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Routing.Ops

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Kernel Cert.Kernel.Gen

variable {F : FTy → Type} [FloatOps F]

local notation "𝕄" => MT nD τ sig Unit (Elt F) ℕ (UR sig nD τ) ℕ

/-! ## What one grid point leaves -/

/-- The loop over the 128-row groups makes 24 trips. -/
theorem trips_eq : k0_t1_loop.trips = 24 := by decide +kernel

/-- Row `r`, column `b` of group `k` of the unpacked weights of one expert. -/
def deqAt (W : Vec F S1x1536x1408 .i8) (S : Vec F S1x24x1408 .f32) (k : Fin k0_t1_loop.trips) (r : Fin 128) (b : Fin 1408) : Elt F .bf16 :=
  k0_pay1 (F := F) (View.ld W (Rect.unit (s := S1x1536x1408) (k0_off3 k) S1x64x1408.size (k0_off3_inb k)))
    (View.ld S (Rect.unit (s := S1x24x1408) (k0_off4 k) S1x1x1408.size (k0_off4_inb k))) (ix2 r b)

/-- The unpacked weights of one expert: row `y` lies in group `y / 128`, whose 64 packed rows and one row of scales
    give the group's 128 rows. -/
def deq (W : Vec F S1x1536x1408 .i8) (S : Vec F S1x24x1408 .f32) : Vec F S3072x1408 .bf16 := fun y =>
  deqAt W S ⟨(y 0).val / 128, by rw [trips_eq]; have := (y 0).isLt; change (y 0).val < 3072 at this; omega⟩
    ⟨(y 0).val % 128, Nat.mod_lt _ (by decide)⟩ (y 1)

/-- The unpacked weights at row `r` of group `k`. -/
theorem deq_at (W : Vec F S1x1536x1408 .i8) (S : Vec F S1x24x1408 .f32) (k : Fin k0_t1_loop.trips) (r : Fin 128) (b : Fin 1408)
    (y : S3072x1408.Idx) (h0 : (y 0).val = 128 * k.val + r.val) (h1 : (y 1).val = b.val) : deq W S y = deqAt W S k r b := by
  have hr := r.isLt
  have e1 : (⟨(y 0).val / 128, by rw [trips_eq]; have := (y 0).isLt; change (y 0).val < 3072 at this; omega⟩ : Fin k0_t1_loop.trips) = k :=
    Fin.ext (by show (y 0).val / 128 = k.val; omega)
  have e2 : (⟨(y 0).val % 128, Nat.mod_lt _ (by decide)⟩ : Fin 128) = r := Fin.ext (by show (y 0).val % 128 = r.val; omega)
  have e3 : (y 1 : Fin 1408) = b := Fin.ext h1
  unfold deq
  rw [e1, e2]
  exact congrArg (deqAt W S k r) e3

/-- The exponents the quantiser finds for a block of rows. -/
def expo (X : Vec F S256x3072 .bf16) : IVec S256x1 32 :=
  k0_pay10 (k0_pay6 X) (k0_pay7 X) (k0_pay8 X) (k0_pay9 X)
/-- The quantised rows, and -/
def qx (X : Vec F S256x3072 .bf16) : Vec F S256x3072 .bf16 := k0_pay2 (k0_pay5 X) (expo X)
/-- their scales. -/
def qs (X : Vec F S256x3072 .bf16) : Vec F S256x1 .f32 := k0_pay3 (F := F) (expo X) k0_pay11

/-- Whether a grid point refreshes a scratch: it is active, and the point is the first one or its table word differs
    from the previous point's. -/
def fires (i : grid0.Coords) (n p w : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne p w))) : BitVec 32) 0#32

/-- One trip stores one piece: the group's unpacked rows at the group's place. -/
theorem trip_pieces (c : Dev nD) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f7 : BufTy.Contents (Elt F) arg7.view.ty) (f8 : BufTy.Contents (Elt F) arg8.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 f7 f8 k
      = [⟨Rect.unit (s := S3072x1408) (k0_off5 k) S128x1408.size (k0_off5_inb k),
          k0_pay1 (F := F) (arg7.view.readAt (Elt F) (Rect.unit (s := S1x1536x1408) (k0_off3 k) S1x64x1408.size (k0_off3_inb k)).toLoadRect f7)
            (arg8.view.readAt (Elt F) (Rect.unit (s := S1x24x1408) (k0_off4 k) S1x1x1408.size (k0_off4_inb k)).toLoadRect f8)⟩] := by
  unfold tripL_k0_t1 trip_k0_t1
  rfl

/-- The pieces of the first `n` trips are rows of `deq`, and they hold the first `128 n` rows. -/
theorem pieces (c : Dev nD) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f7 : BufTy.Contents (Elt F) arg7.view.ty) (f8 : BufTy.Contents (Elt F) arg8.view.ty) (n : ℕ) (hn : n ≤ k0_t1_loop.trips) :
    (∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 f7 f8 n, ∀ x : p.1.shape.Idx,
        p.2 x = deq (F := F) (arg7.view.read (Elt F) f7) (arg8.view.read (Elt F) f8) (p.1.emb x))
      ∧ ∀ y : S3072x1408.Idx, (y 0).val < 128 * n → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 f7 f8 n, y ∈ p.1.set := by
  induction n with
  | zero => exact ⟨fun p hp => absurd hp (by unfold pb_k0_t1; exact List.not_mem_nil), fun y hy => by omega⟩
  | succ n ih =>
    obtain ⟨ih1, ih2⟩ := ih (by omega)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 f7 f8 ⟨n, by omega⟩
    have hn24 : n < 24 := by have := trips_eq; omega
    dsimp only at e
    rw [e, trip_pieces]
    constructor
    · intro p hp x
      rcases List.mem_append.mp hp with hp | hp
      · obtain rfl := List.mem_singleton.mp hp
        obtain ⟨a, b, rfl⟩ : ∃ (a : Fin 128) (b : Fin 1408), x = ix2 a b := ⟨x 0, x 1, by funext t; fin_cases t <;> rfl⟩
        have h0 : (((Rect.unit (s := S3072x1408) (k0_off5 ⟨n, by omega⟩) S128x1408.size (k0_off5_inb ⟨n, by omega⟩)).emb (ix2 a b)) 0).val = 128 * n + a.val := by
          show (k0_off5 ⟨n, by omega⟩) 0 + 1 * a.val = _
          rw [k0_off5_eq]; simp
        have h1 : (((Rect.unit (s := S3072x1408) (k0_off5 ⟨n, by omega⟩) S128x1408.size (k0_off5_inb ⟨n, by omega⟩)).emb (ix2 a b)) 1).val = b.val := by
          show (k0_off5 ⟨n, by omega⟩) 1 + 1 * b.val = _
          rw [k0_off5_eq]; simp
        exact (deq_at (F := F) _ _ ⟨n, by omega⟩ a b _ h0 h1).symm
      · exact ih1 p hp x
    · intro y hy
      by_cases hlt : (y 0).val < 128 * n
      · obtain ⟨p, hp, hm⟩ := ih2 y hlt
        exact ⟨p, List.mem_append.mpr (.inr hp), hm⟩
      · refine ⟨_, List.mem_append.mpr (.inl (List.mem_singleton.mpr rfl)), ?_⟩
        refine (Rect.unit (s := S3072x1408) (k0_off5 ⟨n, by omega⟩) S128x1408.size (k0_off5_inb ⟨n, by omega⟩)).mem_set.mpr fun a => ?_
        fin_cases a
        · refine ⟨(y 0).val - 128 * n, ?_, ?_⟩
          · show _ < 128; omega
          · show (y 0).val = (k0_off5 ⟨n, by omega⟩) 0 + 1 * _
            rw [k0_off5_eq]; simp; omega
        · refine ⟨(y 1).val, (y 1).isLt, ?_⟩
          show (y 1).val = (k0_off5 ⟨n, by omega⟩) 1 + 1 * _
          rw [k0_off5_eq]; simp

/-- What the loop leaves in the weight scratch. -/
theorem read_loop (c : Dev nD) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f7 : BufTy.Contents (Elt F) arg7.view.ty) (f8 : BufTy.Contents (Elt F) arg8.view.ty) (f10 : BufTy.Contents (Elt F) arg10.view.ty) :
    arg10.view.read (Elt F) (arg10.view.writes (Elt F) f10 (pb_k0_t1 (F := F) Variants.none c none i arg1 harg1 arg2 harg2 arg3 harg3 arg4 harg4 arg5 harg5 arg6 harg6 arg7 harg7 arg8 harg8 arg9 harg9 arg10 harg10 arg11 harg11 arg12 harg12 f7 f8
        (Scf.trips k0_t1_loop.lb k0_t1_loop.ub k0_t1_loop.st)))
      = deq (F := F) (arg7.view.read (Elt F) f7) (arg8.view.read (Elt F) f8) := by
  have h := pieces (F := F) c i arg1 harg1 arg2 harg2 arg3 harg3 arg4 harg4 arg5 harg5 arg6 harg6 arg7 harg7 arg8 harg8 arg9 harg9 arg10 harg10 arg11 harg11 arg12 harg12 f7 f8 k0_t1_loop.trips le_rfl
  funext y
  exact View.read_writes_apply_of_pieces _ _ _ _ h.1 y (h.2 y (by
    have := (y 0).isLt; change (y 0).val < 3072 at this
    rw [trips_eq]; omega))

/-- A buffer kept or written as a condition says reads as that condition says. -/
theorem read_dite {sig : RefSig} {κ : Kind} {sp : Space} {s : Shape} {e : EltTy} (v : View sig κ sp s e) {C D : Prop} [Decidable C] [Decidable D] (h : C ↔ D)
    (A : C → v.ty.Contents (Elt F)) (f : v.ty.Contents (Elt F)) (X : Vec F s e) (hA : ∀ hc, v.read (Elt F) (A hc) = X) :
    v.read (Elt F) (if hc : C then A hc else f) = if D then X else v.read (Elt F) f := by
  by_cases hC : C
  · rw [dif_pos hC, if_pos (h.mp hC), hA]
  · rw [dif_neg hC, if_neg fun hD => hC (h.mpr hD)]

/-- The block's payload is a function of the words and the blocks it is made from. -/
theorem pay4_congr (i : grid0.Coords) {t t' p p' lo lo' hi hi' : BitVec 32} {a a' : Vec F S256x3072 .bf16} {b b' : Vec F S3072x1408 .bf16}
    {d d' : Vec F S256x1 .f32} {o o' : Vec F S256x1408 .bf16} (ht : t = t') (hp : p = p') (ha : a = a') (hb : b = b') (hd : d = d')
    (hlo : lo = lo') (hhi : hi = hi') (ho : o = o') : k0_pay4 i t p a b d lo hi o = k0_pay4 i t' p' a' b' d' lo' hi' o' := by
  subst ht hp ha hb hd hlo hhi ho; rfl

/-- The quantiser's exponents of a block are those of an equal block. -/
theorem X6_congr (X Y : Vec F S256x3072 .bf16) (h : X = Y) : expo X = expo Y := by rw [h]

set_option maxHeartbeats 4000000 in
/-- The kernel's body at a grid point: the tables and the inputs stand, a scratch whose table word is new is refilled,
    and the output's block is rewritten where the point is active. -/
theorem run (c : Dev nD) (E : Set ℕ) (i : grid0.Coords) (arg1 : Memref sig .tc .smem S31 .i32) (harg1 : arg1.IsWhole) (arg2 : Memref sig .tc .smem S31 .i32) (harg2 : arg2.IsWhole) (arg3 : Memref sig .tc .smem S16 .i32) (harg3 : arg3.IsWhole) (arg4 : Memref sig .tc .smem S16 .i32) (harg4 : arg4.IsWhole) (arg5 : Memref sig .tc .smem S1 .i32) (harg5 : arg5.IsWhole) (arg6 : Memref sig .tc .vmem S256x3072 .bf16) (harg6 : arg6.IsWhole) (arg7 : Memref sig .tc .vmem S1x1536x1408 .i8) (harg7 : arg7.IsWhole) (arg8 : Memref sig .tc .vmem S1x24x1408 .f32) (harg8 : arg8.IsWhole) (arg9 : Memref sig .tc .vmem S256x1408 .bf16) (harg9 : arg9.IsWhole) (arg10 : Memref sig .tc .vmem S3072x1408 .bf16) (harg10 : arg10.IsWhole) (arg11 : Memref sig .tc .vmem S256x3072 .bf16) (harg11 : arg11.IsWhole) (arg12 : Memref sig .tc .vmem S256x1 .f32) (harg12 : arg12.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty)
    (X6 : Vec F S256x3072 .bf16) (X7 : Vec F S1x1536x1408 .i8) (X8 : Vec F S1x24x1408 .f32) (X9 : Vec F S256x1408 .bf16)
    (X10 : Vec F S3072x1408 .bf16) (X11 : Vec F S256x3072 .bf16) (X12 : Vec F S256x1 .f32)
    (q : PosShare TreeShare) (g pg t pt n lo hi : BitVec 32)
    (hg : arg1.view.readAt (Elt F) (Rect.unit (s := S31) (k0_off1 i) S1.size (k0_off1_inb i)).toLoadRect f1 (Shape.Idx.first (Nat.lt_of_lt_of_eq Nat.one_pos numel1_S1.symm)) = g)
    (hpg : arg1.view.readAt (Elt F) (Rect.unit (s := S31) (k0_off2 i) S1.size (k0_off2_inb i)).toLoadRect f1 (Shape.Idx.first (Nat.lt_of_lt_of_eq Nat.one_pos numel1_S1.symm)) = pg)
    (ht : arg2.view.readAt (Elt F) (Rect.unit (s := S31) (k0_off1 i) S1.size (k0_off1_inb i)).toLoadRect f2 (Shape.Idx.first (Nat.lt_of_lt_of_eq Nat.one_pos numel1_S1.symm)) = t)
    (hpt : arg2.view.readAt (Elt F) (Rect.unit (s := S31) (k0_off2 i) S1.size (k0_off2_inb i)).toLoadRect f2 (Shape.Idx.first (Nat.lt_of_lt_of_eq Nat.one_pos numel1_S1.symm)) = pt)
    (hn : arg5.view.readAt (Elt F) (Rect.unit (s := S1) ![0] S1.size inb_S1_S1_0).toLoadRect f5 (Shape.Idx.first (Nat.lt_of_lt_of_eq Nat.one_pos numel1_S1.symm)) = n)
    (hlo : ∀ h, arg3.view.readAt (Elt F) (Rect.unit (s := S16) (k0_off6 g) S1.size h).toLoadRect f3 (Shape.Idx.first (Nat.lt_of_lt_of_eq Nat.one_pos numel1_S1.symm)) = lo)
    (hhi : ∀ h, arg4.view.readAt (Elt F) (Rect.unit (s := S16) (k0_off6 g) S1.size h).toLoadRect f4 (Shape.Idx.first (Nat.lt_of_lt_of_eq Nat.one_pos numel1_S1.symm)) = hi)
    (hchk : k0_chk1 i g n)
    (K : PUnit → sProp 𝕄) :
    iprop((arg1.view.loc (c : Thread nD τ) ↦{q} f1) ∗ (arg2.view.loc (c : Thread nD τ) ↦{q} f2) ∗ (arg3.view.loc (c : Thread nD τ) ↦{q} f3) ∗ (arg4.view.loc (c : Thread nD τ) ↦{q} f4) ∗ (arg5.view.loc (c : Thread nD τ) ↦{q} f5)
      ∗ owns (c : Thread nD τ) arg6 fullShare X6 ∗ owns (c : Thread nD τ) arg7 fullShare X7 ∗ owns (c : Thread nD τ) arg8 fullShare X8 ∗ owns (c : Thread nD τ) arg9 fullShare X9
      ∗ owns (c : Thread nD τ) arg10 fullShare X10 ∗ owns (c : Thread nD τ) arg11 fullShare X11 ∗ owns (c : Thread nD τ) arg12 fullShare X12
      ∗ (iprop((arg1.view.loc (c : Thread nD τ) ↦{q} f1) ∗ (arg2.view.loc (c : Thread nD τ) ↦{q} f2) ∗ (arg3.view.loc (c : Thread nD τ) ↦{q} f3) ∗ (arg4.view.loc (c : Thread nD τ) ↦{q} f4) ∗ (arg5.view.loc (c : Thread nD τ) ↦{q} f5)
        ∗ owns (c : Thread nD τ) arg6 fullShare X6 ∗ owns (c : Thread nD τ) arg7 fullShare X7 ∗ owns (c : Thread nD τ) arg8 fullShare X8
        ∗ owns (c : Thread nD τ) arg9 fullShare (if k0_cond3 i n = 1#1 then
            k0_pay4 i t pt (if fires i n pt t = 1#1 then qx X6 else X11) (if fires i n pg g = 1#1 then deq X7 X8 else X10)
              (if fires i n pt t = 1#1 then qs X6 else X12) lo hi X9 else X9)
        ∗ owns (c : Thread nD τ) arg10 fullShare (if fires i n pg g = 1#1 then deq X7 X8 else X10)
        ∗ owns (c : Thread nD τ) arg11 fullShare (if fires i n pt t = 1#1 then qx X6 else X11)
        ∗ owns (c : Thread nD τ) arg12 fullShare (if fires i n pt t = 1#1 then qs X6 else X12)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton]
  have hchk' : ∀ v1 v6 : BitVec 32, v1 = g → v6 = n → k0_chk1 i v1 v6 := fun _ _ e1 e2 => by rw [e1, e2]; exact hchk
  unfold owns
  iintro ⟨H1, H2, H3, H4, H5, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf6 hf7 hf8 hf9 hf10 hf11 hf12
  sl_exec (disch := ((with_reducible refine hchk' _ _ ?_ ?_); exact hg; exact hn))
  have e1 : run.sl.r i arg1 f1 = g := hg
  have e2 : run.sl.r_1 i arg2 f2 = t := ht
  have e3 : run.sl.r_2 arg5 f5 = n := hn
  have e4 : run.sl.r_3 i arg1 f1 = pg := hpg
  have e5 : run.sl.r_4 i arg2 f2 = pt := hpt
  by_cases hA : Scalar.cmpi CmpIPredicate.ne
                (Scalar.extui
                  (Scalar.andi (Scalar.cmpi CmpIPredicate.slt (BitVec.ofNat 32 ↑(i 0)) (run.sl.r_2 arg5 f5))
                    (Scalar.ori (Scalar.cmpi CmpIPredicate.eq (BitVec.ofNat 32 ↑(i 0)) 0#32)
                      (Scalar.cmpi CmpIPredicate.ne (run.sl.r_3 i arg1 f1) (run.sl.r i arg1 f1)))))
                0#32 = 1#1
  · sl_exec
    sl_step
    subst e1 e2 e3 e4 e5
    have hA' : fires i (run.sl.r_2 arg5 f5) (run.sl.r_3 i arg1 f1) (run.sl.r i arg1 f1) = 1#1 := hA
    iapply Hk
    isplitl [H1]; · iexact H1
    isplitl [H2]; · iexact H2
    isplitl [H3]; · iexact H3
    isplitl [H4]; · iexact H4
    isplitl [H5]; · iexact H5
    isplitl [H6]; · iexists _; isplitr; swap; · iexact H6
                    · ipureintro; rfl
    isplitl [H7]; · iexists _; isplitr; swap; · iexact H7
                    · ipureintro; rfl
    isplitl [H8]; · iexists _; isplitr; swap; · iexact H8
                    · ipureintro; rfl
    isplitl [H9]
    · iexists _; isplitr; swap; · iexact H9
      · ipureintro
        refine read_dite (F := F) arg9.view Iff.rfl _ _ _ fun hc => (View.read_writes_full _ _ _ _ _).trans ?_
        refine pay4_congr (F := F) i rfl rfl ?_ ?_ ?_ (hlo _) (hhi _) (View.readAt_full _ _ _)
        · refine (View.readAt_full _ _ _).trans (read_dite (F := F) arg11.view Iff.rfl _ _ _ fun hc => (View.read_writes_full _ _ _ _ _).trans ?_)
          exact congrArg₂ _ (congrArg _ (View.readAt_full _ _ _)) (X6_congr _ _ (View.readAt_full _ _ _))
        · refine (View.readAt_full _ _ _).trans ?_
          exact (read_loop (F := F) c i arg1 harg1 arg2 harg2 arg3 harg3 arg4 harg4 arg5 harg5 arg6 harg6 arg7 harg7 arg8 harg8 arg9 harg9 arg10 harg10 arg11 harg11 arg12 harg12 f7 f8 f10).trans (if_pos hA').symm
        · refine (View.readAt_full _ _ _).trans (read_dite (F := F) arg12.view Iff.rfl _ _ _ fun hc => (View.read_writes_full _ _ _ _ _).trans ?_)
          exact congrArg (fun z => k0_pay3 (F := F) z k0_pay11) (X6_congr _ _ (View.readAt_full _ _ _))
    isplitl [H10]
    · iexists _; isplitr; swap; · iexact H10
      · ipureintro
        exact (read_loop (F := F) c i arg1 harg1 arg2 harg2 arg3 harg3 arg4 harg4 arg5 harg5 arg6 harg6 arg7 harg7 arg8 harg8 arg9 harg9 arg10 harg10 arg11 harg11 arg12 harg12 f7 f8 f10).trans (if_pos hA').symm
    isplitl [H11]
    · iexists _; isplitr; swap; · iexact H11
      · ipureintro
        refine read_dite (F := F) arg11.view Iff.rfl _ _ _ fun hc => (View.read_writes_full _ _ _ _ _).trans ?_
        exact congrArg₂ _ (congrArg _ (View.readAt_full _ _ _)) (X6_congr _ _ (View.readAt_full _ _ _))
    · iexists _; isplitr; swap; · iexact H12
      · ipureintro
        refine read_dite (F := F) arg12.view Iff.rfl _ _ _ fun hc => (View.read_writes_full _ _ _ _ _).trans ?_
        exact congrArg (fun z => k0_pay3 (F := F) z k0_pay11) (X6_congr _ _ (View.readAt_full _ _ _))
  · sl_exec
    sl_step
    subst e1 e2 e3 e4 e5
    have hA' : ¬ fires i (run.sl.r_2 arg5 f5) (run.sl.r_3 i arg1 f1) (run.sl.r i arg1 f1) = 1#1 := hA
    iapply Hk
    isplitl [H1]; · iexact H1
    isplitl [H2]; · iexact H2
    isplitl [H3]; · iexact H3
    isplitl [H4]; · iexact H4
    isplitl [H5]; · iexact H5
    isplitl [H6]; · iexists _; isplitr; swap; · iexact H6
                    · ipureintro; rfl
    isplitl [H7]; · iexists _; isplitr; swap; · iexact H7
                    · ipureintro; rfl
    isplitl [H8]; · iexists _; isplitr; swap; · iexact H8
                    · ipureintro; rfl
    isplitl [H9]
    · iexists _; isplitr; swap; · iexact H9
      · ipureintro
        refine read_dite (F := F) arg9.view Iff.rfl _ _ _ fun hc => (View.read_writes_full _ _ _ _ _).trans ?_
        refine pay4_congr (F := F) i rfl rfl ?_ ?_ ?_ (hlo _) (hhi _) (View.readAt_full _ _ _)
        · refine (View.readAt_full _ _ _).trans (read_dite (F := F) arg11.view Iff.rfl _ _ _ fun hc => (View.read_writes_full _ _ _ _ _).trans ?_)
          exact congrArg₂ _ (congrArg _ (View.readAt_full _ _ _)) (X6_congr _ _ (View.readAt_full _ _ _))
        · refine (View.readAt_full _ _ _).trans ?_
          exact (if_neg hA').symm
        · refine (View.readAt_full _ _ _).trans (read_dite (F := F) arg12.view Iff.rfl _ _ _ fun hc => (View.read_writes_full _ _ _ _ _).trans ?_)
          exact congrArg (fun z => k0_pay3 (F := F) z k0_pay11) (X6_congr _ _ (View.readAt_full _ _ _))
    isplitl [H10]
    · iexists _; isplitr; swap; · iexact H10
      · ipureintro
        exact (if_neg hA').symm
    isplitl [H11]
    · iexists _; isplitr; swap; · iexact H11
      · ipureintro
        refine read_dite (F := F) arg11.view Iff.rfl _ _ _ fun hc => (View.read_writes_full _ _ _ _ _).trans ?_
        exact congrArg₂ _ (congrArg _ (View.readAt_full _ _ _)) (X6_congr _ _ (View.readAt_full _ _ _))
    · iexists _; isplitr; swap; · iexact H12
      · ipureintro
        refine read_dite (F := F) arg12.view Iff.rfl _ _ _ fun hc => (View.read_writes_full _ _ _ _ _).trans ?_
        exact congrArg (fun z => k0_pay3 (F := F) z k0_pay11) (X6_congr _ _ (View.readAt_full _ _ _))

end Cert.Kernel.Body

end

end
-- ==== Proof.EntryK.lean ====
/-
  The contents of the buffers when the grid starts: the host's tables are those of Tables.lean at the group sizes as
  launched, and the arguments are as launched.
-/
module

public import proofs.«01_k».proof.Proof.Tables
public import proofs.«01_k».proof.Proof.Gen.Kernel.Launch
public import Idealize.ShloMosaic.Lib.Claim

@[expose] public section

set_option maxRecDepth 16384

noncomputable section

namespace Cert.Kernel.Entry

open Idealize.ShloMosaic Idealize.ShloMosaic.TcCoe Idealize.ShloMosaic.Tactic
open Idealize.SL Idealize.SL.RA Idealize.SL.BI Idealize.SL.Sem
open Cert.Kernel Cert.Kernel.Gen

variable {F : FTy → Type} [FloatOps F]
variable (m : (ℓ : Loc nD τ sig) → Buf (Elt F) ℓ)

/-- The host operations before the grid, in order. -/
abbrev hostOps : List (List (HloOp τ sig (Elt F))) :=
  [hostOps0, hostOps0_1, hostOps0_2, hostOps0_3, hostOps0_4, hostOps0_5, hostOps0_6, hostOps0_7, hostOps0_8]

/-- The contents of core `c`'s buffer `b` when the grid starts. -/
abbrev V (c : Dev nD) (b : Ref sig .tc) : Buf (Elt F) ((c : Thread nD τ).loc b) :=
  StableHlo.after (List.flatten hostOps) (fun b => m (c, b)) (Proc.devRef .tc b)

section
variable (σ : Valuation τ sig (Elt F))

/-- What the buffers read later hold after stretch 0 of the host operations. -/
theorem stretch0 :
    StableHlo.after hostOps0 σ (Proc.devRef .tc main_v0) = Tables.cumsum (σ (Proc.devRef .tc main_arg1))
    ∧ StableHlo.after hostOps0 σ (Proc.devRef .tc main_arg0) = σ (Proc.devRef .tc main_arg0)
    ∧ StableHlo.after hostOps0 σ (Proc.devRef .tc main_arg1) = σ (Proc.devRef .tc main_arg1)
    ∧ StableHlo.after hostOps0 σ (Proc.devRef .tc main_arg2) = σ (Proc.devRef .tc main_arg2)
    ∧ StableHlo.after hostOps0 σ (Proc.devRef .tc main_arg3) = σ (Proc.devRef .tc main_arg3) := by
  refine ⟨?_, ?_, ?_, ?_, ?_⟩ <;>
  · entry_read
    try simp -implicitDefEqProofs only [StableHlo.TRef.toBuf, StableHlo.TRef.ofBuf, cast_cast, cast_eq]
    try rfl

/-- What the buffers read later hold after stretch 1 of the host operations. -/
theorem stretch1 :
    StableHlo.after hostOps0_1 σ (Proc.devRef .tc main_v1) = subi (σ (Proc.devRef .tc main_v0)) (σ (Proc.devRef .tc main_arg1))
    ∧ StableHlo.after hostOps0_1 σ (Proc.devRef .tc main_c) = constantI S_ 32 256#32
    ∧ StableHlo.after hostOps0_1 σ (Proc.devRef .tc main_v0) = σ (Proc.devRef .tc main_v0)
    ∧ StableHlo.after hostOps0_1 σ (Proc.devRef .tc main_arg0) = σ (Proc.devRef .tc main_arg0)
    ∧ StableHlo.after hostOps0_1 σ (Proc.devRef .tc main_arg1) = σ (Proc.devRef .tc main_arg1)
    ∧ StableHlo.after hostOps0_1 σ (Proc.devRef .tc main_arg2) = σ (Proc.devRef .tc main_arg2)
    ∧ StableHlo.after hostOps0_1 σ (Proc.devRef .tc main_arg3) = σ (Proc.devRef .tc main_arg3) := by
  refine ⟨?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 2 of the host operations. -/
theorem stretch2 :
    StableHlo.after hostOps0_2 σ (Proc.devRef .tc main_v2) = Routing.pyDiv Facts₀.bcast_S_S16 (σ (Proc.devRef .tc main_v1)) (σ (Proc.devRef .tc main_c))
    ∧ StableHlo.after hostOps0_2 σ (Proc.devRef .tc main_v0) = σ (Proc.devRef .tc main_v0)
    ∧ StableHlo.after hostOps0_2 σ (Proc.devRef .tc main_v1) = σ (Proc.devRef .tc main_v1)
    ∧ StableHlo.after hostOps0_2 σ (Proc.devRef .tc main_arg0) = σ (Proc.devRef .tc main_arg0)
    ∧ StableHlo.after hostOps0_2 σ (Proc.devRef .tc main_arg1) = σ (Proc.devRef .tc main_arg1)
    ∧ StableHlo.after hostOps0_2 σ (Proc.devRef .tc main_arg2) = σ (Proc.devRef .tc main_arg2)
    ∧ StableHlo.after hostOps0_2 σ (Proc.devRef .tc main_arg3) = σ (Proc.devRef .tc main_arg3) := by
  refine ⟨?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 3 of the host operations. -/
theorem stretch3 :
    StableHlo.after hostOps0_3 σ (Proc.devRef .tc main_v4) = cmpi .sgt (σ (Proc.devRef .tc main_arg1)) (Tables.c16 0#32)
    ∧ StableHlo.after hostOps0_3 σ (Proc.devRef .tc main_v6) = subi (σ (Proc.devRef .tc main_v0)) (Tables.c16 1#32)
    ∧ StableHlo.after hostOps0_3 σ (Proc.devRef .tc main_c_2) = constantI S_ 32 256#32
    ∧ StableHlo.after hostOps0_3 σ (Proc.devRef .tc main_v0) = σ (Proc.devRef .tc main_v0)
    ∧ StableHlo.after hostOps0_3 σ (Proc.devRef .tc main_v1) = σ (Proc.devRef .tc main_v1)
    ∧ StableHlo.after hostOps0_3 σ (Proc.devRef .tc main_v2) = σ (Proc.devRef .tc main_v2)
    ∧ StableHlo.after hostOps0_3 σ (Proc.devRef .tc main_arg0) = σ (Proc.devRef .tc main_arg0)
    ∧ StableHlo.after hostOps0_3 σ (Proc.devRef .tc main_arg1) = σ (Proc.devRef .tc main_arg1)
    ∧ StableHlo.after hostOps0_3 σ (Proc.devRef .tc main_arg2) = σ (Proc.devRef .tc main_arg2)
    ∧ StableHlo.after hostOps0_3 σ (Proc.devRef .tc main_arg3) = σ (Proc.devRef .tc main_arg3) := by
  refine ⟨?_, ?_, ?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 4 of the host operations. -/
theorem stretch4 :
    StableHlo.after hostOps0_4 σ (Proc.devRef .tc main_v7) = Routing.pyDiv Facts₀.bcast_S_S16 (σ (Proc.devRef .tc main_v6)) (σ (Proc.devRef .tc main_c_2))
    ∧ StableHlo.after hostOps0_4 σ (Proc.devRef .tc main_v0) = σ (Proc.devRef .tc main_v0)
    ∧ StableHlo.after hostOps0_4 σ (Proc.devRef .tc main_v1) = σ (Proc.devRef .tc main_v1)
    ∧ StableHlo.after hostOps0_4 σ (Proc.devRef .tc main_v2) = σ (Proc.devRef .tc main_v2)
    ∧ StableHlo.after hostOps0_4 σ (Proc.devRef .tc main_v4) = σ (Proc.devRef .tc main_v4)
    ∧ StableHlo.after hostOps0_4 σ (Proc.devRef .tc main_arg0) = σ (Proc.devRef .tc main_arg0)
    ∧ StableHlo.after hostOps0_4 σ (Proc.devRef .tc main_arg1) = σ (Proc.devRef .tc main_arg1)
    ∧ StableHlo.after hostOps0_4 σ (Proc.devRef .tc main_arg2) = σ (Proc.devRef .tc main_arg2)
    ∧ StableHlo.after hostOps0_4 σ (Proc.devRef .tc main_arg3) = σ (Proc.devRef .tc main_arg3) := by
  refine ⟨?_, ?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 5 of the host operations. -/
theorem stretch5 :
    StableHlo.after hostOps0_5 σ (Proc.devRef .tc main_v10) = addi (subi (σ (Proc.devRef .tc main_v7)) (σ (Proc.devRef .tc main_v2))) (Tables.c16 1#32)
    ∧ StableHlo.after hostOps0_5 σ (Proc.devRef .tc main_c_4) = constantI S_ 32 0#32
    ∧ StableHlo.after hostOps0_5 σ (Proc.devRef .tc main_v0) = σ (Proc.devRef .tc main_v0)
    ∧ StableHlo.after hostOps0_5 σ (Proc.devRef .tc main_v1) = σ (Proc.devRef .tc main_v1)
    ∧ StableHlo.after hostOps0_5 σ (Proc.devRef .tc main_v2) = σ (Proc.devRef .tc main_v2)
    ∧ StableHlo.after hostOps0_5 σ (Proc.devRef .tc main_v4) = σ (Proc.devRef .tc main_v4)
    ∧ StableHlo.after hostOps0_5 σ (Proc.devRef .tc main_arg0) = σ (Proc.devRef .tc main_arg0)
    ∧ StableHlo.after hostOps0_5 σ (Proc.devRef .tc main_arg1) = σ (Proc.devRef .tc main_arg1)
    ∧ StableHlo.after hostOps0_5 σ (Proc.devRef .tc main_arg2) = σ (Proc.devRef .tc main_arg2)
    ∧ StableHlo.after hostOps0_5 σ (Proc.devRef .tc main_arg3) = σ (Proc.devRef .tc main_arg3) := by
  refine ⟨?_, ?_, ?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 6 of the host operations. -/
theorem stretch6 :
    StableHlo.after hostOps0_6 σ (Proc.devRef .tc main_v11) = select (σ (Proc.devRef .tc main_v4)) (σ (Proc.devRef .tc main_v10)) (broadcastInDim S16 ![] Facts₀.bcast_S_S16 (σ (Proc.devRef .tc main_c_4)))
    ∧ StableHlo.after hostOps0_6 σ (Proc.devRef .tc main_v0) = σ (Proc.devRef .tc main_v0)
    ∧ StableHlo.after hostOps0_6 σ (Proc.devRef .tc main_v1) = σ (Proc.devRef .tc main_v1)
    ∧ StableHlo.after hostOps0_6 σ (Proc.devRef .tc main_v2) = σ (Proc.devRef .tc main_v2)
    ∧ StableHlo.after hostOps0_6 σ (Proc.devRef .tc main_arg0) = σ (Proc.devRef .tc main_arg0)
    ∧ StableHlo.after hostOps0_6 σ (Proc.devRef .tc main_arg1) = σ (Proc.devRef .tc main_arg1)
    ∧ StableHlo.after hostOps0_6 σ (Proc.devRef .tc main_arg2) = σ (Proc.devRef .tc main_arg2)
    ∧ StableHlo.after hostOps0_6 σ (Proc.devRef .tc main_arg3) = σ (Proc.devRef .tc main_arg3) := by
  refine ⟨?_, ?_, ?_, ?_, ?_, ?_, ?_, ?_⟩ <;>
  · entry_read
    try simp -implicitDefEqProofs only [StableHlo.TRef.toBuf, StableHlo.TRef.ofBuf, cast_cast, cast_eq]
    try rfl

/-- What the buffers read later hold after stretch 7 of the host operations. -/
theorem stretch7 :
    StableHlo.after hostOps0_7 σ (Proc.devRef .tc main_v12) = Tables.cumsum (σ (Proc.devRef .tc main_v11))
    ∧ StableHlo.after hostOps0_7 σ (Proc.devRef .tc main_v0) = σ (Proc.devRef .tc main_v0)
    ∧ StableHlo.after hostOps0_7 σ (Proc.devRef .tc main_v1) = σ (Proc.devRef .tc main_v1)
    ∧ StableHlo.after hostOps0_7 σ (Proc.devRef .tc main_v2) = σ (Proc.devRef .tc main_v2)
    ∧ StableHlo.after hostOps0_7 σ (Proc.devRef .tc main_v11) = σ (Proc.devRef .tc main_v11)
    ∧ StableHlo.after hostOps0_7 σ (Proc.devRef .tc main_arg0) = σ (Proc.devRef .tc main_arg0)
    ∧ StableHlo.after hostOps0_7 σ (Proc.devRef .tc main_arg1) = σ (Proc.devRef .tc main_arg1)
    ∧ StableHlo.after hostOps0_7 σ (Proc.devRef .tc main_arg2) = σ (Proc.devRef .tc main_arg2)
    ∧ StableHlo.after hostOps0_7 σ (Proc.devRef .tc main_arg3) = σ (Proc.devRef .tc main_arg3) := by
  refine ⟨?_, ?_, ?_, ?_, ?_, ?_, ?_, ?_, ?_⟩ <;>
  · entry_read
    try simp -implicitDefEqProofs only [StableHlo.TRef.toBuf, StableHlo.TRef.ofBuf, cast_cast, cast_eq]
    try rfl

/-- The visit of every grid point, from the running sum of the tile counts. -/
abbrev visitOf (c : IVec S16 32) : IVec S31 32 :=
  minsi (iotaInDim S31 32 0)
    (broadcastInDim S31 ![] Facts₀.bcast_S_S31
      (subi (shapeCast S_ (extractStridedSlice S1 ![15] c Facts₀.slices_S16_S1_15) Facts₀.shapeCasts_S1_S_) (constantI S_ 32 1#32)))
/-- The expert of every grid point, from the running sum of the tile counts. -/
abbrev expertOf (c : IVec S16 32) : IVec S31 32 :=
  Host.reduce IntOp.addi
    (extui 32 (cmpi .sle (broadcastInDim S31x16 ![0, 1] Facts₀.bcast_S1x16_S31x16_0_1 (broadcastInDim S1x16 ![1] Facts₀.bcast_S16_S1x16_1 c))
      (broadcastInDim S31x16 ![0, 1] Facts₀.bcast_S31x1_S31x16_0_1 (broadcastInDim S31x1 ![0] Facts₀.bcast_S31_S31x1_0 (visitOf c)))) Facts₀.natLt_1_32)
    (constantI S_ 32 0#32) Facts₀.reducesTo_S31x16_S31_d1 Facts₀.h_S_
/-- A vector of the experts read at the expert of every grid point. -/
abbrev takeOf (c x : IVec S16 32) : IVec S31 32 :=
  Host.gather gather_S16_S31x1_S31_n_0_n_n_0_1_1 x
    (broadcastInDim S31x1 ![0] Facts₀.bcast_S31_S31x1_0
      (select (cmpi .slt (expertOf c) (Tables.c31 0#32)) (addi (expertOf c) (Tables.c31 16#32)) (expertOf c)))

/-- What the tables hold after the last stretch. -/
theorem stretch8 :
    StableHlo.after hostOps0_8 σ (Proc.devRef .tc main_v13) = extractStridedSlice S1 ![15] (σ (Proc.devRef .tc main_v12)) Facts₀.slices_S16_S1_15
    ∧ StableHlo.after hostOps0_8 σ (Proc.devRef .tc main_v25) = expertOf (σ (Proc.devRef .tc main_v12))
    ∧ StableHlo.after hostOps0_8 σ (Proc.devRef .tc main_v49)
      = subi (addi (takeOf (σ (Proc.devRef .tc main_v12)) (σ (Proc.devRef .tc main_v2))) (visitOf (σ (Proc.devRef .tc main_v12))))
        (subi (takeOf (σ (Proc.devRef .tc main_v12)) (σ (Proc.devRef .tc main_v12))) (takeOf (σ (Proc.devRef .tc main_v12)) (σ (Proc.devRef .tc main_v11))))
    ∧ StableHlo.after hostOps0_8 σ (Proc.devRef .tc main_v0) = σ (Proc.devRef .tc main_v0)
    ∧ StableHlo.after hostOps0_8 σ (Proc.devRef .tc main_v1) = σ (Proc.devRef .tc main_v1)
    ∧ StableHlo.after hostOps0_8 σ (Proc.devRef .tc main_arg0) = σ (Proc.devRef .tc main_arg0)
    ∧ StableHlo.after hostOps0_8 σ (Proc.devRef .tc main_arg1) = σ (Proc.devRef .tc main_arg1)
    ∧ StableHlo.after hostOps0_8 σ (Proc.devRef .tc main_arg2) = σ (Proc.devRef .tc main_arg2)
    ∧ StableHlo.after hostOps0_8 σ (Proc.devRef .tc main_arg3) = σ (Proc.devRef .tc main_arg3) := by
  refine ⟨?_, ?_, ?_, ?_, ?_, ?_, ?_, ?_, ?_⟩ <;>
  · entry_read
    try simp -implicitDefEqProofs only [StableHlo.TRef.toBuf, StableHlo.TRef.ofBuf, cast_cast, cast_eq]
    try rfl
end

theorem after_append (l₁ l₂ : List (HloOp τ sig (Elt F))) (σ : Valuation τ sig (Elt F)) :
    StableHlo.after (l₁ ++ l₂) σ = StableHlo.after l₂ (StableHlo.after l₁ σ) := by
  induction l₁ generalizing σ with
  | nil => rfl
  | cons op l ih => exact ih _

/-- The nine stretches run one after the other. -/
theorem V_eq (c : Dev nD) (b : Ref sig .tc) :
    V m c b = StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))) (Proc.devRef .tc b) := by
  unfold V hostOps
  simp only [List.flatten_cons, List.flatten_nil, after_append]
  rfl

/-- The nine stretches composed. -/
abbrev afterAll (σ : Valuation τ sig (Elt F)) : Valuation τ sig (Elt F) :=
  StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 σ))))))))

/-- What the arguments and the tables hold after all of them. -/
theorem stretches (σ : Valuation τ sig (Elt F)) :
    afterAll σ (Proc.devRef .tc main_arg0) = σ (Proc.devRef .tc main_arg0)
    ∧ afterAll σ (Proc.devRef .tc main_arg1) = σ (Proc.devRef .tc main_arg1)
    ∧ afterAll σ (Proc.devRef .tc main_arg2) = σ (Proc.devRef .tc main_arg2)
    ∧ afterAll σ (Proc.devRef .tc main_arg3) = σ (Proc.devRef .tc main_arg3)
    ∧ afterAll σ (Proc.devRef .tc main_v0) = Tables.ends (σ (Proc.devRef .tc main_arg1))
    ∧ afterAll σ (Proc.devRef .tc main_v1) = Tables.starts (σ (Proc.devRef .tc main_arg1))
    ∧ afterAll σ (Proc.devRef .tc main_v13) = Tables.visits (σ (Proc.devRef .tc main_arg1))
    ∧ afterAll σ (Proc.devRef .tc main_v25) = Tables.expert (σ (Proc.devRef .tc main_arg1))
    ∧ afterAll σ (Proc.devRef .tc main_v49) = Tables.tile (σ (Proc.devRef .tc main_arg1)) := by
  unfold afterAll
  obtain ⟨h0_v0, h0_arg0, h0_arg1, h0_arg2, h0_arg3⟩ := stretch0 σ
  generalize StableHlo.after hostOps0 σ = σ0 at *
  obtain ⟨h1_v1, h1_c, h1_v0, h1_arg0, h1_arg1, h1_arg2, h1_arg3⟩ := stretch1 σ0
  generalize StableHlo.after hostOps0_1 σ0 = σ1 at *
  obtain ⟨h2_v2, h2_v0, h2_v1, h2_arg0, h2_arg1, h2_arg2, h2_arg3⟩ := stretch2 σ1
  generalize StableHlo.after hostOps0_2 σ1 = σ2 at *
  obtain ⟨h3_v4, h3_v6, h3_c_2, h3_v0, h3_v1, h3_v2, h3_arg0, h3_arg1, h3_arg2, h3_arg3⟩ := stretch3 σ2
  generalize StableHlo.after hostOps0_3 σ2 = σ3 at *
  obtain ⟨h4_v7, h4_v0, h4_v1, h4_v2, h4_v4, h4_arg0, h4_arg1, h4_arg2, h4_arg3⟩ := stretch4 σ3
  generalize StableHlo.after hostOps0_4 σ3 = σ4 at *
  obtain ⟨h5_v10, h5_c_4, h5_v0, h5_v1, h5_v2, h5_v4, h5_arg0, h5_arg1, h5_arg2, h5_arg3⟩ := stretch5 σ4
  generalize StableHlo.after hostOps0_5 σ4 = σ5 at *
  obtain ⟨h6_v11, h6_v0, h6_v1, h6_v2, h6_arg0, h6_arg1, h6_arg2, h6_arg3⟩ := stretch6 σ5
  generalize StableHlo.after hostOps0_6 σ5 = σ6 at *
  obtain ⟨h7_v12, h7_v0, h7_v1, h7_v2, h7_v11, h7_arg0, h7_arg1, h7_arg2, h7_arg3⟩ := stretch7 σ6
  generalize StableHlo.after hostOps0_7 σ6 = σ7 at *
  obtain ⟨h8_v13, h8_v25, h8_v49, h8_v0, h8_v1, h8_arg0, h8_arg1, h8_arg2, h8_arg3⟩ := stretch8 σ7
  generalize StableHlo.after hostOps0_8 σ7 = σ8 at *
  refine ⟨?_, ?_, ?_, ?_, ?_, ?_, ?_, ?_, ?_⟩
  · rw [h8_arg0, h7_arg0, h6_arg0, h5_arg0, h4_arg0, h3_arg0, h2_arg0, h1_arg0, h0_arg0]
  · rw [h8_arg1, h7_arg1, h6_arg1, h5_arg1, h4_arg1, h3_arg1, h2_arg1, h1_arg1, h0_arg1]
  · rw [h8_arg2, h7_arg2, h6_arg2, h5_arg2, h4_arg2, h3_arg2, h2_arg2, h1_arg2, h0_arg2]
  · rw [h8_arg3, h7_arg3, h6_arg3, h5_arg3, h4_arg3, h3_arg3, h2_arg3, h1_arg3, h0_arg3]
  · rw [h8_v0, h7_v0, h6_v0, h5_v0, h4_v0, h3_v0, h2_v0, h1_v0, h0_v0]; rfl
  · rw [h8_v1, h7_v1, h6_v1, h5_v1, h4_v1, h3_v1, h2_v1, h1_v1, h0_v0, h0_arg1]; rfl
  · rw [h8_v13, h7_v12, h6_v11, h5_v4, h5_v10, h5_c_4, h4_v4, h4_v7, h4_v2, h3_v4, h3_v6, h3_c_2, h3_v2, h2_arg1, h2_v0, h2_v2, h1_arg1, h1_v0, h1_v1, h1_c, h0_arg1, h0_v0]; rfl
  · rw [h8_v25, h7_v12, h6_v11, h5_v4, h5_v10, h5_c_4, h4_v4, h4_v7, h4_v2, h3_v4, h3_v6, h3_c_2, h3_v2, h2_arg1, h2_v0, h2_v2, h1_arg1, h1_v0, h1_v1, h1_c, h0_arg1, h0_v0]; rfl
  · rw [h8_v49, h7_v12, h7_v2, h7_v11, h6_v11, h6_v2, h5_v4, h5_v10, h5_c_4, h5_v2, h4_v4, h4_v7, h4_v2, h3_v4, h3_v6, h3_c_2, h3_v2, h2_arg1, h2_v0, h2_v2, h1_arg1, h1_v0, h1_v1, h1_c, h0_arg1, h0_v0]; rfl
theorem V_arg0 (c : Dev nD) : V m c main_arg0 = m ((c : Thread nD τ).loc main_arg0) := (V_eq m c _).trans (stretches _).1
theorem V_arg1 (c : Dev nD) : V m c main_arg1 = m ((c : Thread nD τ).loc main_arg1) := (V_eq m c _).trans (stretches _).2.1
theorem V_arg2 (c : Dev nD) : V m c main_arg2 = m ((c : Thread nD τ).loc main_arg2) := (V_eq m c _).trans (stretches _).2.2.1
theorem V_arg3 (c : Dev nD) : V m c main_arg3 = m ((c : Thread nD τ).loc main_arg3) := (V_eq m c _).trans (stretches _).2.2.2.1
theorem V_v0 (c : Dev nD) : V m c main_v0 = Tables.ends (m ((c : Thread nD τ).loc main_arg1)) := (V_eq m c _).trans (stretches _).2.2.2.2.1
theorem V_v1 (c : Dev nD) : V m c main_v1 = Tables.starts (m ((c : Thread nD τ).loc main_arg1)) := (V_eq m c _).trans (stretches _).2.2.2.2.2.1
theorem V_v13 (c : Dev nD) : V m c main_v13 = Tables.visits (m ((c : Thread nD τ).loc main_arg1)) := (V_eq m c _).trans (stretches _).2.2.2.2.2.2.1
theorem V_v25 (c : Dev nD) : V m c main_v25 = Tables.expert (m ((c : Thread nD τ).loc main_arg1)) := (V_eq m c _).trans (stretches _).2.2.2.2.2.2.2.1
theorem V_v49 (c : Dev nD) : V m c main_v49 = Tables.tile (m ((c : Thread nD τ).loc main_arg1)) := (V_eq m c _).trans (stretches _).2.2.2.2.2.2.2.2

end Cert.Kernel.Entry

end

end
-- ==== Proof.PointsK.lean ====
/-
  The words a grid point reads from the host's tables, in natural numbers, and the conditions of the body on them.
-/
module

public import proofs.«01_k».proof.Proof.BodyK
public import proofs.«01_k».proof.Proof.EntryK

@[expose] public section

set_option maxRecDepth 16384

noncomputable section

namespace Cert.Kernel.Points

open Idealize.ShloMosaic Idealize.ShloMosaic.TcCoe Idealize.ShloMosaic.WordCmp
open Idealize.ShloMosaic.ValueIdx
open Cert.Kernel Cert.Kernel.Gen Cert.Kernel.Facts₀ Cert.Kernel.Body Cert.Visits

variable {F : FTy → Type} [FloatOps F]
variable (m : (ℓ : Loc nD τ sig) → Buf (Elt F) ℓ)

/-- The group sizes as launched. -/
abbrev sizes (c : Dev nD) : IVec S16 32 := m ((c : Thread nD τ).loc main_arg1)

/-- The group sizes as launched, as natural numbers. -/
def size (c : Dev nD) (i : ℕ) : ℕ := if h : i < 16 then (sizes m c (ix1 ⟨i, h⟩)).toNat else 0

theorem size_ap (c : Dev nD) (i : Fin 16) : sizes m c (ix1 i) = BitVec.ofNat 32 (size m c i.val) := by
  unfold size
  rw [dif_pos i.isLt, BitVec.ofNat_toNat, BitVec.setWidth_eq]

/-- The group sizes add up to the number of rows. -/
def Ok : Prop := ∀ c : Dev nD, pre (size m c) 16 = 4096

/-- The host's tables when the grid starts. -/
def pf (c : Dev nD) : pre0.Contents (Elt F) := fun k => Entry.V m c (pre0.ref k)

section
variable {m} (hO : Ok m) (c : Dev nD)
include hO

theorem pf0 (v : Fin 31) : (pf m c 0 : IVec S31 32) (ix1 v) = BitVec.ofNat 32 (gid (size m c) v.val) :=
  (congrFun (Entry.V_v25 m c) (ix1 v)).trans (Tables.expert_ap (size_ap m c) (hO c) v)

theorem pf1 (v : Fin 31) : (pf m c 1 : IVec S31 32) (ix1 v) = BitVec.ofNat 32 (tid (size m c) v.val) :=
  (congrFun (Entry.V_v49 m c) (ix1 v)).trans (Tables.tile_ap (size_ap m c) (hO c) v)

omit hO in
theorem pf2 (v : Fin 16) : (pf m c 2 : IVec S16 32) (ix1 v) = BitVec.ofNat 32 (pre (size m c) v.val) :=
  (congrFun (Entry.V_v1 m c) (ix1 v)).trans (Tables.starts_ap (size_ap m c) v)

omit hO in
theorem pf3 (v : Fin 16) : (pf m c 3 : IVec S16 32) (ix1 v) = BitVec.ofNat 32 (pre (size m c) (v.val + 1)) :=
  (congrFun (Entry.V_v0 m c) (ix1 v)).trans (Tables.ends_ap (size_ap m c) v)

theorem pf4 : (pf m c 4 : IVec S1 32) (ix1 0) = BitVec.ofNat 32 (nv (size m c)) :=
  (congrFun (Entry.V_v13 m c) (ix1 0)).trans (Tables.visits_ap (size_ap m c) (hO c))

end

/-- A unit rectangle of a line at an offset below the extent is the index there. -/
theorem emb_unit1 {n : ℕ} (o : ℕ) (ho : o < n) (off : Fin 1 → ℕ) (he : off = ![o]) (inb : ∀ a, off a + S1.size a ≤ (⟨1, ![n]⟩ : Shape).size a)
    (j : (Rect.unit (s := ⟨1, ![n]⟩) off S1.size inb).shape.Idx) : (Rect.unit (s := ⟨1, ![n]⟩) off S1.size inb).emb j = ix1 ⟨o, ho⟩ := by
  subst he
  funext a
  fin_cases a
  apply Fin.ext
  have hj : (j 0).val = 0 := by have := (j 0).isLt; change (j 0).val < 1 at this; omega
  show o + 1 * (j 0).val = o
  omega

/-- The previous grid point, the first one being its own. -/
theorem off2_eq (i : grid0.Coords) : k0_off2 i = ![(i 0).val - 1] := by
  have hi := (i 0).isLt
  change (i 0).val < 31 at hi
  have key : ∀ k : Fin 31, (Scalar.indexCast (Scalar.maxsi (Scalar.subi (BitVec.ofNat 32 k.val) 1#32) 0#32) : BitVec 32).toNat = k.val - 1 := by decide
  unfold k0_off2
  exact congrArg (fun n => ![n]) (key ⟨(i 0).val, hi⟩)

/-- The body is active at the visits. -/
theorem cond3_iff (i : grid0.Coords) (n : ℕ) (hn : n ≤ 31) : k0_cond3 i (BitVec.ofNat 32 n) = 1#1 ↔ (i 0).val < n := by
  have hi := (i 0).isLt
  change (i 0).val < 31 at hi
  have key : ∀ (k : Fin 31) (n : Fin 32), (Scalar.cmpi .ne (Scalar.extui (Scalar.cmpi .slt (BitVec.ofNat 32 k.val) (BitVec.ofNat 32 n.val)) : BitVec 32) 0#32) = 1#1 ↔ k.val < n.val := by decide +kernel
  exact key ⟨(i 0).val, hi⟩ ⟨n, by omega⟩

/-- A scratch is refilled at the first visit and where its table word is new. -/
theorem fires_iff (i : grid0.Coords) (n p w : ℕ) (hn : n ≤ 31) (hp : p < 32) (hw : w < 32) :
    fires i (BitVec.ofNat 32 n) (BitVec.ofNat 32 p) (BitVec.ofNat 32 w) = 1#1 ↔ (i 0).val < n ∧ ((i 0).val = 0 ∨ p ≠ w) := by
  have hi := (i 0).isLt
  change (i 0).val < 31 at hi
  have k1 : ∀ (k : Fin 31) (n : Fin 32), Scalar.cmpi .slt (BitVec.ofNat 32 k.val) (BitVec.ofNat 32 n.val) = BitVec.ofBool (decide (k.val < n.val)) := by decide +kernel
  have k2 : ∀ (k n : Fin 32), Scalar.cmpi .ne (BitVec.ofNat 32 k.val) (BitVec.ofNat 32 n.val) = BitVec.ofBool (decide (k.val ≠ n.val)) := by decide +kernel
  have k3 : ∀ (k : Fin 31), Scalar.cmpi .eq (BitVec.ofNat 32 k.val) 0#32 = BitVec.ofBool (decide (k.val = 0)) := by decide +kernel
  have k4 : ∀ a b d : Bool, Scalar.cmpi .ne (Scalar.extui (Scalar.andi (BitVec.ofBool a) (Scalar.ori (BitVec.ofBool b) (BitVec.ofBool d))) : BitVec 32) 0#32 = 1#1 ↔ (a = true ∧ (b = true ∨ d = true)) := by decide +kernel
  unfold fires
  rw [k1 ⟨(i 0).val, hi⟩ ⟨n, by omega⟩, k2 ⟨p, hp⟩ ⟨w, hw⟩, k3 ⟨(i 0).val, hi⟩, k4]
  simp

/-- The block's payload, where it starts a new tile, does not read the block. -/
theorem pay4_fresh (i : grid0.Coords) (t p : ℕ) (ht : t < 32) (hp : p < 32) (h : (i 0).val = 0 ∨ p ≠ t) (a : Vec F S256x3072 .bf16)
    (b : Vec F S3072x1408 .bf16) (d : Vec F S256x1 .f32) (lo hi : BitVec 32) (o o' : Vec F S256x1408 .bf16) :
    k0_pay4 i (BitVec.ofNat 32 t) (BitVec.ofNat 32 p) a b d lo hi o = k0_pay4 i (BitVec.ofNat 32 t) (BitVec.ofNat 32 p) a b d lo hi o' := by
  have hi := (i 0).isLt
  change (i 0).val < 31 at hi
  have k2 : ∀ (k n : Fin 32), Scalar.cmpi .ne (BitVec.ofNat 32 k.val) (BitVec.ofNat 32 n.val) = BitVec.ofBool (decide (k.val ≠ n.val)) := by decide +kernel
  have k3 : ∀ (k : Fin 31), Scalar.cmpi .eq (BitVec.ofNat 32 k.val) 0#32 = BitVec.ofBool (decide (k.val = 0)) := by decide +kernel
  have k4 : ∀ b d : Bool, (b = true ∨ d = true) → Scalar.ori (BitVec.ofBool b) (BitVec.ofBool d) = 1#1 := by decide +kernel
  have e : Scalar.ori (Scalar.cmpi .eq (BitVec.ofNat 32 (i 0).val) 0#32) (Scalar.cmpi .ne (BitVec.ofNat 32 p) (BitVec.ofNat 32 t)) = 1#1 := by
    rw [k2 ⟨p, hp⟩ ⟨t, ht⟩, k3 ⟨(i 0).val, hi⟩, k4]
    simpa using h
  unfold k0_pay4
  simp only [e]
  rfl

end Cert.Kernel.Points

end

end
-- ==== Proof.ConfigK.lean ====
/-
  The grid at the host's tables: the tables are admissible, which blocks each point takes, and the words the body
  reads there.
-/
module

public import proofs.«01_k».proof.Proof.PointsK
public import Idealize.ShloMosaic.Lib.PairWhole
public import Idealize.ShloMosaic.Lib.Pipeline.TableIdle

@[expose] public section

set_option maxRecDepth 16384

noncomputable section

namespace Cert.Kernel.Config

open Idealize.ShloMosaic Idealize.ShloMosaic.TcCoe
open Idealize.ShloMosaic.ValueIdx
open Cert.Kernel Cert.Kernel.Gen Cert.Kernel.Body Cert.Kernel.Points Cert.Visits

variable {F : FTy → Type} [FloatOps F]
variable {m : (ℓ : Loc nD τ sig) → Buf (Elt F) ℓ} (hO : Ok m)

/-! ## The blocks of the windows -/

section
include hO

theorem word_gid (i : grid0.Coords) (off : Fin 1 → ℕ) (k : ℕ) (hk : k < 31) (he : off = ![k]) (h : ∀ a, off a + S1.size a ≤ S31.size a)
    (j : (Rect.unit (s := S31) off S1.size h).shape.Idx) :
    (pf m 0 0 : IVec S31 32) ((Rect.unit (s := S31) off S1.size h).emb j) = BitVec.ofNat 32 (gid (size m 0) k) := by
  rw [emb_unit1 k hk off he]
  exact pf0 hO 0 ⟨k, hk⟩

theorem word_tid (i : grid0.Coords) (off : Fin 1 → ℕ) (k : ℕ) (hk : k < 31) (he : off = ![k]) (h : ∀ a, off a + S1.size a ≤ S31.size a)
    (j : (Rect.unit (s := S31) off S1.size h).shape.Idx) :
    (pf m 0 1 : IVec S31 32) ((Rect.unit (s := S31) off S1.size h).emb j) = BitVec.ofNat 32 (tid (size m 0) k) := by
  rw [emb_unit1 k hk off he]
  exact pf1 hO 0 ⟨k, hk⟩

theorem gid16 (v : ℕ) : gid (size m 0) v < 16 := gid_lt (hO 0) v
theorem tid16 (v : ℕ) : tid (size m 0) v < 16 := tid_lt (hO 0) v

theorem ofNat_toNat (n : ℕ) (h : n < 32) : (BitVec.ofNat 32 n).toNat = n := by
  rw [BitVec.toNat_ofNat]; omega

theorem transform_0 (i : grid0.Coords) : cc0_transform_0 k0_off1_inb numel1_S1 (pf m 0) i = ![tid (size m 0) (i 0).val, 0] := by
  unfold cc0_transform_0
  refine congrArg (fun n => ![n, 0]) ((congrArg BitVec.toNat (word_tid hO i _ (i 0).val (i 0).isLt (k0_off1_eq i) (k0_off1_inb i) _)).trans ?_)
  exact ofNat_toNat hO _ (Nat.lt_trans (tid16 hO _) (by decide))

theorem transform_3 (i : grid0.Coords) : cc0_transform_3 k0_off1_inb numel1_S1 (pf m 0) i = ![tid (size m 0) (i 0).val, 0] := by
  unfold cc0_transform_3
  refine congrArg (fun n => ![n, 0]) ((congrArg BitVec.toNat (word_tid hO i _ (i 0).val (i 0).isLt (k0_off1_eq i) (k0_off1_inb i) _)).trans ?_)
  exact ofNat_toNat hO _ (Nat.lt_trans (tid16 hO _) (by decide))

theorem transform_1 (i : grid0.Coords) : cc0_transform_1 k0_off1_inb numel1_S1 (pf m 0) i = ![gid (size m 0) (i 0).val, 0, 0] := by
  unfold cc0_transform_1
  refine congrArg (fun n => ![n, 0, 0]) ((congrArg BitVec.toNat (word_gid hO i _ (i 0).val (i 0).isLt (k0_off1_eq i) (k0_off1_inb i) _)).trans ?_)
  exact ofNat_toNat hO _ (Nat.lt_trans (gid16 hO _) (by decide))

theorem transform_2 (i : grid0.Coords) : cc0_transform_2 k0_off1_inb numel1_S1 (pf m 0) i = ![gid (size m 0) (i 0).val, 0, 0] := by
  unfold cc0_transform_2
  refine congrArg (fun n => ![n, 0, 0]) ((congrArg BitVec.toNat (word_gid hO i _ (i 0).val (i 0).isLt (k0_off1_eq i) (k0_off1_inb i) _)).trans ?_)
  exact ofNat_toNat hO _ (Nat.lt_trans (gid16 hO _) (by decide))

/-- The host's tables name blocks inside the arrays. -/
theorem ok : ok0 (pf m 0) := by
  refine ⟨fun i => ⟨?_, Or.inr (Rect.packedRows_of_rowAxis _ _ (by decide) ?_ ?_ rfl).wholeWords⟩,
    fun i => ⟨?_, Or.inr (Rect.packedRows_of_rowAxis _ _ (by decide) ?_ ?_ rfl).wholeWords⟩,
    fun i => ⟨?_, Or.inl rfl⟩,
    fun i => ⟨?_, Or.inr (Rect.packedRows_of_rowAxis _ _ (by decide) ?_ ?_ rfl).wholeWords⟩⟩
  · rw [transform_0 hO]
    have := tid16 hO (i 0).val
    intro a; fin_cases a
    · show (tid (size m 0) (i 0).val + 1) * 256 ≤ 4096; omega
    · show (0 + 1) * 3072 ≤ 3072; omega
  · show EltTy.packing .bf16 ∣ cc0_transform_0 k0_off1_inb numel1_S1 (pf m 0) i 0 * 256
    exact Nat.dvd_trans (by decide) (Nat.dvd_mul_left 256 _)
  · show EltTy.packing .bf16 ∣ 256
    decide
  · rw [transform_1 hO]
    have := gid16 hO (i 0).val
    intro a; fin_cases a
    · show (gid (size m 0) (i 0).val + 1) * 1 ≤ 16; omega
    · show (0 + 1) * 1536 ≤ 1536; omega
    · show (0 + 1) * 1408 ≤ 1408; omega
  · show EltTy.packing .i8 ∣ cc0_transform_1 k0_off1_inb numel1_S1 (pf m 0) i 1 * 1536
    exact Nat.dvd_trans (by decide) (Nat.dvd_mul_left 1536 _)
  · show EltTy.packing .i8 ∣ 1536
    decide
  · rw [transform_2 hO]
    have := gid16 hO (i 0).val
    intro a; fin_cases a
    · show (gid (size m 0) (i 0).val + 1) * 1 ≤ 16; omega
    · show (0 + 1) * 24 ≤ 24; omega
    · show (0 + 1) * 1408 ≤ 1408; omega
  · rw [transform_3 hO]
    have := tid16 hO (i 0).val
    intro a; fin_cases a
    · show (tid (size m 0) (i 0).val + 1) * 256 ≤ 4096; omega
    · show (0 + 1) * 1408 ≤ 1408; omega
  · show EltTy.packing .bf16 ∣ cc0_transform_3 k0_off1_inb numel1_S1 (pf m 0) i 0 * 256
    exact Nat.dvd_trans (by decide) (Nat.dvd_mul_left 256 _)
  · show EltTy.packing .bf16 ∣ 256
    decide

end

/-- The host's tables, as the contents the grid runs at. -/
abbrev adm : (pcfg0 (F := F)).Adm := ⟨pf m 0, ok hO⟩

/-- The grid at the host's tables. -/
abbrev cfgA : Pipeline.Cfg sig Λ₀ := cfg0 (adm hO)

/-- Point `n` of the grid (its last point beyond it). -/
def pt (n : ℕ) : Fin (cfgA hO).N := ⟨min n 30, by rw [show (cfgA hO).N = 31 from N_0]; omega⟩

theorem lt31 (t : Fin (cfgA hO).N) : t.val < 31 := lt_of_lt_of_eq t.isLt N_0

theorem pt_val (t : Fin (cfgA hO).N) : pt hO t.val = t := Fin.ext (by have := lt31 hO t; show min t.val 30 = t.val; omega)

/-- The point's coordinate is its number. -/
theorem coords_val (t : Fin (cfgA hO).N) : ((cfgA hO).grid.coords t 0).val = t.val := by
  have h := Pipeline.Grid.coords_val (G := grid0) t 0 (S := 1) (B := 31) (by decide) (by rfl)
  rw [show ((cfgA hO).grid.coords t 0).val = (grid0.coords t 0).val from rfl, h]
  have := lt31 hO t; omega

theorem coords_pt (n : ℕ) (hn : n < 31) : ((cfgA hO).grid.coords (pt hO n) 0).val = n := by
  rw [coords_val]; show min n 30 = n; omega

end Cert.Kernel.Config

end

end
-- ==== Proof.RunK.lean ====
/-
  The kernel's run: what its scratch and its output block hold after each grid point, the body's triple restated at
  those contents, and the launch: every execution ends, with the arguments as launched and the output array at what the
  blocks written back leave.
-/
module

public import proofs.«01_k».proof.Proof.ConfigK
public import Idealize.ShloMosaic.Lib.Pipeline.FrameBody
public import Idealize.ShloMosaic.Lib.Pipeline.FrameSuffix
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline
open Cert.Kernel Cert.Kernel.Gen Cert.Kernel.Body Cert.Kernel.Points Cert.Kernel.Config Cert.Visits

variable {F : FTy → Type} [FloatOps F]

/-- The assertions the run is stated in. -/
abbrev Asrt (F : FTy → Type) [FloatOps F] : Type := sProp (MT nD τ sig Unit (Elt F) ℕ (UR sig nD τ) ℕ)

attribute [local irreducible] Points.pf

variable {m : (ℓ : Loc nD τ sig) → Buf (Elt F) ℓ} (hO : Ok m) (c : Dev nD)

/-! ## What each point leaves -/

/-- Window `w`'s block at point `t`, of the arrays as the grid finds them. -/
def iblk (w : Fin (cfgA hO).W) (t : Fin (cfgA hO).N) : (((cfgA hO).win w).xblock ((cfgA hO).grid.coords t)).Idx → Elt F ((cfgA hO).win w).elt :=
  (((cfgA hO).win w).blk t).view.read (Elt F) (Entry.V m c (Pipeline.arrRef spec0 w))

/-- The activations' block at point `n`. -/
def x0 (n : ℕ) : Vec F S256x3072 .bf16 := iblk hO c 0 (pt hO n)
/-- The packed weights' block at point `n`. -/
def x1 (n : ℕ) : Vec F S1x1536x1408 .i8 := iblk hO c 1 (pt hO n)
/-- The weights' scales' block at point `n`. -/
def x2 (n : ℕ) : Vec F S1x24x1408 .f32 := iblk hO c 2 (pt hO n)

/-- A new expert's weights are unpacked at point `n`. -/
def newG (n : ℕ) : Prop := n < nv (size m 0) ∧ (n = 0 ∨ gid (size m 0) (n - 1) ≠ gid (size m 0) n)
/-- A new tile's rows are quantised at point `n`. -/
def newT (n : ℕ) : Prop := n < nv (size m 0) ∧ (n = 0 ∨ tid (size m 0) (n - 1) ≠ tid (size m 0) n)

instance (n : ℕ) : Decidable (newG (m := m) n) := by unfold newG; infer_instance
instance (n : ℕ) : Decidable (newT (m := m) n) := by unfold newT; infer_instance

/-- The unpacked weights after point `n`. -/
def Wt : ℕ → Vec F S3072x1408 .bf16
  | 0 => deq (x1 hO c 0) (x2 hO c 0)
  | n + 1 => if newG (m := m) (n + 1) then deq (x1 hO c (n + 1)) (x2 hO c (n + 1)) else Wt n
/-- The quantised rows after point `n`. -/
def Xq : ℕ → Vec F S256x3072 .bf16
  | 0 => qx (x0 hO c 0)
  | n + 1 => if newT (m := m) (n + 1) then qx (x0 hO c (n + 1)) else Xq n
/-- The rows' scales after point `n`. -/
def Sc : ℕ → Vec F S256x1 .f32
  | 0 => qs (x0 hO c 0)
  | n + 1 => if newT (m := m) (n + 1) then qs (x0 hO c (n + 1)) else Sc n

/-- What a visit at point `n` makes of the output block `o`. -/
def put (n : ℕ) (o : Vec F S256x1408 .bf16) : Vec F S256x1408 .bf16 :=
  k0_pay4 ((cfgA hO).grid.coords (pt hO n)) (BitVec.ofNat 32 (tid (size m 0) n)) (BitVec.ofNat 32 (tid (size m 0) (n - 1))) (Xq hO c n) (Wt hO c n) (Sc hO c n)
    (BitVec.ofNat 32 (pre (size m 0) (gid (size m 0) n))) (BitVec.ofNat 32 (pre (size m 0) (gid (size m 0) n + 1))) o

/-- The output block after point `n`. -/
def Ob : ℕ → Vec F S256x1408 .bf16
  | 0 => put hO c 0 (iblk hO c 3 (pt hO 0))
  | n + 1 => if n + 1 < nv (size m 0) then put hO c (n + 1) (Ob n) else Ob n

theorem Wt_step (n : ℕ) (X : Vec F S3072x1408 .bf16) (h : n ≠ 0 → X = Wt hO c (n - 1)) :
    (if newG (m := m) n then deq (x1 hO c n) (x2 hO c n) else X) = Wt hO c n := by
  cases n with
  | zero => rw [if_pos ⟨nv_pos (hO 0), Or.inl rfl⟩]; rfl
  | succ n => rw [h (Nat.succ_ne_zero n)]; rfl

theorem Xq_step (n : ℕ) (X : Vec F S256x3072 .bf16) (h : n ≠ 0 → X = Xq hO c (n - 1)) :
    (if newT (m := m) n then qx (x0 hO c n) else X) = Xq hO c n := by
  cases n with
  | zero => rw [if_pos ⟨nv_pos (hO 0), Or.inl rfl⟩]; rfl
  | succ n => rw [h (Nat.succ_ne_zero n)]; rfl

theorem Sc_step (n : ℕ) (X : Vec F S256x1 .f32) (h : n ≠ 0 → X = Sc hO c (n - 1)) :
    (if newT (m := m) n then qs (x0 hO c n) else X) = Sc hO c n := by
  cases n with
  | zero => rw [if_pos ⟨nv_pos (hO 0), Or.inl rfl⟩]; rfl
  | succ n => rw [h (Nat.succ_ne_zero n)]; rfl

/-! ## The proof data -/

/-- The scratch before point `n`: after the point before it, and anything at the start. -/
def Phi (n : ℕ) : Asrt F :=
  iprop((∃ X, ⌜n ≠ 0 → X = Wt hO c (n - 1)⌝ ∗ owns (c : Thread nD τ) (Memref.whole cc0_scratch0) fullShare X)
    ∗ (∃ X, ⌜n ≠ 0 → X = Xq hO c (n - 1)⌝ ∗ owns (c : Thread nD τ) (Memref.whole cc0_scratch1) fullShare X)
    ∗ (∃ X, ⌜n ≠ 0 → X = Sc hO c (n - 1)⌝ ∗ owns (c : Thread nD τ) (Memref.whole cc0_scratch2) fullShare X)
    ∗ (∃ r, prngReg c r)
    ∗ Pipeline.prefHeld pre0 c (fun _ => fullShare.right) (pf m 0))

/-- The proof data of the grid on core `c`. -/
def dats (_ : Fin 1) (c : Dev nD) : Dat τ (Elt F) Unit ℕ (UR sig nD τ) ℕ (cfgA hO) c where
  A w := Entry.V m c (Pipeline.arrRef spec0 w)
  after w t := match w with
    | ⟨0, _⟩ => iblk hO c 0 t
    | ⟨1, _⟩ => iblk hO c 1 t
    | ⟨2, _⟩ => iblk hO c 2 t
    | ⟨3, _⟩ => Ob hO c t.val
  Φ t := Phi hO c t.val
  q _ := fullShare
  owed _ := 0

theorem A_eq (w : Fin (cfgA hO).W) : (dats hO 0 c).A w = Entry.V m c (Pipeline.arrRef spec0 w) := by dsimp only [dats]
theorem after_0 (t : Fin (cfgA hO).N) : (dats hO 0 c).after 0 t = iblk hO c 0 t := by dsimp only [dats]; rfl
theorem after_1 (t : Fin (cfgA hO).N) : (dats hO 0 c).after 1 t = iblk hO c 1 t := by dsimp only [dats]; rfl
theorem after_2 (t : Fin (cfgA hO).N) : (dats hO 0 c).after 2 t = iblk hO c 2 t := by dsimp only [dats]; rfl
theorem after_3 (t : Fin (cfgA hO).N) : (dats hO 0 c).after 3 t = Ob hO c t.val := by dsimp only [dats]; rfl
theorem Phi_eq (t : Fin ((cfgA hO).N + 1)) : (dats hO 0 c).Φ t = Phi hO c t.val := by dsimp only [dats]

theorem before_0 (t : Fin (cfgA hO).N) (d) : (dats hO 0 c).before 0 t d = iblk hO c 0 t :=
  ((dats hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin (cfgA hO).N) (d) : (dats hO 0 c).before 1 t d = iblk hO c 1 t :=
  ((dats hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin (cfgA hO).N) (d) : (dats hO 0 c).before 2 t d = iblk hO c 2 t :=
  ((dats hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## Where the output block is kept and written back -/

include hO in
/-- The number of visits, as the grid reads it. -/
theorem table_4 : (pf m 0).atD 4 ![0] = BitVec.ofNat 32 (nv (size m 0)) :=
  (dif_pos (by decide)).trans ((congrArg (pf m 0 4) (funext fun a => Fin.ext (by fin_cases a; rfl))).trans (pf4 hO 0))

theorem idle_eq : (cfgA hO).idle = idle0 (pf m 0) := rfl

theorem idle0_3 (i : grid0.Coords) : idle0 (pf m 0) 3 i = !(k0_cond3 i ((pf m 0).atD 4 ![0]) == 1#1) := rfl

/-- The output window is idle past the last visit. -/
theorem idle_3 (t : Fin (cfgA hO).N) : (cfgA hO).idle 3 ((cfgA hO).grid.coords t) = !(decide (t.val < nv (size m 0))) := by
  have hc := cond3_iff ((cfgA hO).grid.coords t) (nv (size m 0)) (nv_le (hO 0))
  rw [coords_val] at hc
  have e : (k0_cond3 ((cfgA hO).grid.coords t) ((pf m 0).atD 4 ![0]) == 1#1) = decide (t.val < nv (size m 0)) := by
    rw [table_4 hO, Bool.eq_iff_iff, beq_iff_eq, decide_eq_true_iff]
    exact hc
  exact (congrArg (fun f => f 3 ((cfgA hO).grid.coords t)) (idle_eq hO)).trans ((idle0_3 (m := m) ((cfgA hO).grid.coords t)).trans (congrArg not e))

theorem index_3 (t : Fin (cfgA hO).N) : ((cfgA hO).win 3).index t = ![tid (size m 0) t.val, 0] := by
  have h := transform_3 hO ((cfgA hO).grid.coords t)
  rw [coords_val hO t] at h
  exact h

/-- The output block is written back at the last point and where the next point has another tile. -/
theorem flush_3 (t : Fin (cfgA hO).N) : ((cfgA hO).win 3).flush t = true ↔ (t.val = 30 ∨ tid (size m 0) (t.val + 1) ≠ tid (size m 0) t.val) := by
  have hN : (cfgA hO).grid.N = 31 := N_0
  have ht := lt31 hO t
  unfold Window.flush
  rw [show ((cfgA hO).win 3).isOut = true from rfl, Bool.true_and, Bool.or_eq_true, decide_eq_true_iff, decide_eq_true_iff]
  constructor
  · rintro (h | ⟨h, h'⟩)
    · left; omega
    · right
      intro e
      apply h'
      rw [index_3, index_3]
      exact congrArg (fun n => ![n, 0]) e
  · rintro (h | h)
    · left; omega
    · by_cases hl : t.val + 1 = (cfgA hO).grid.N
      · exact Or.inl hl
      · right
        refine ⟨by have := t.isLt; change t.val < (cfgA hO).grid.N at this; omega, ?_⟩
        rw [index_3, index_3]
        exact fun e => h (congrFun e 0)

/-- A block not kept from the point before starts a tile. -/
theorem fresh_3 (n : ℕ) : n < 31 → (cfgA hO).fresh 3 n = true → n = 0 ∨ tid (size m 0) (n - 1) ≠ tid (size m 0) n := by
  induction n with
  | zero => exact fun _ _ => Or.inl rfl
  | succ n ih =>
    intro hn h
    have hN : (cfgA hO).N = 31 := N_0
    have hlt : n < (cfgA hO).N := by omega
    rw [Pipeline.Cfg.fresh_succ _ _ _ hlt, Bool.or_eq_true, Bool.and_eq_true] at h
    right
    rcases h with h | ⟨h1, h2⟩
    · rcases (flush_3 hO _).mp h with h | h
      · exact absurd h (by show n ≠ 30; omega)
      · exact fun e => h e.symm
    · rw [idle_3, Bool.not_eq_true', decide_eq_false_iff_not, not_lt] at h1
      change nv (size m 0) ≤ n at h1
      have hp := nv_pos (hO 0)
      rcases ih (by omega) h2 with h | h
      · omega
      · obtain ⟨k, rfl⟩ : ∃ k, n = k + 1 := ⟨n - 1, by omega⟩
        by_cases hk : nv (size m 0) ≤ k + 1
        · exact absurd (Visits.idle_eq hk).2.symm h
        · omega

theorem carry_3 (t : Fin (cfgA hO).N) (ht : t.val ≠ 0) (hi : (cfgA hO).idle 3 ((cfgA hO).grid.coords t) = true) :
    (dats hO 0 c).after 3 t = (dats hO 0 c).after 3 ⟨t.val - 1, by omega⟩ := by
  rw [idle_3, Bool.not_eq_true', decide_eq_false_iff_not] at hi
  rw [after_3, after_3]
  show Ob hO c t.val = Ob hO c (t.val - 1)
  obtain ⟨n, hn⟩ : ∃ n, t.val = n + 1 := ⟨t.val - 1, by omega⟩
  rw [hn] at hi ⊢
  exact if_neg hi

theorem before_3 (t : Fin (cfgA hO).N) (d) :
    (dats hO 0 c).before 3 t d = if (cfgA hO).fresh 3 t.val then d else (dats hO 0 c).after 3 ⟨t.val - 1, by omega⟩ :=
  Dat.before_out_traj (dats hO 0 c) 3 rfl (fun _ _ => rfl) (fun t ht hi _ => carry_3 hO c t ht hi) t.val t rfl d

/-! ## The body at a point -/

abbrev st_0 (t : Fin (cfgA hO).N) := ((cfgA hO).win 0).stage ((cfgA hO).slots t 0)
abbrev st_1 (t : Fin (cfgA hO).N) := ((cfgA hO).win 1).stage ((cfgA hO).slots t 1)
abbrev st_2 (t : Fin (cfgA hO).N) := ((cfgA hO).win 2).stage ((cfgA hO).slots t 2)
abbrev st_3 (t : Fin (cfgA hO).N) := ((cfgA hO).win 3).stage ((cfgA hO).slots t 3)

/-- The body at point `t`, on the buffers the pipeline calls it with. -/
abbrev bodyAt (t : Fin (cfgA hO).N) : Prog (TpuEff nD τ sig (Elt F) Λ₀ .tc) PUnit :=
  cc0__body (grid0.coords t) (Memref.whole main_v25) (Memref.isWhole_whole _) (Memref.whole main_v49) (Memref.isWhole_whole _)
    (Memref.whole main_v1) (Memref.isWhole_whole _) (Memref.whole main_v0) (Memref.isWhole_whole _) (Memref.whole main_v13) (Memref.isWhole_whole _)
    (st_0 hO t) (hstage0_0 (((cfgA hO).slots t 0).cast nbuf0_0)) (st_1 hO t) (hstage0_1 (((cfgA hO).slots t 1).cast nbuf0_1))
    (st_2 hO t) (hstage0_2 (((cfgA hO).slots t 2).cast nbuf0_2)) (st_3 hO t) (hstage0_3 (((cfgA hO).slots t 3).cast nbuf0_3))
    (Memref.whole cc0_scratch0) (Memref.isWhole_whole _) (Memref.whole cc0_scratch1) (Memref.isWhole_whole _) (Memref.whole cc0_scratch2) (Memref.isWhole_whole _)

theorem defs₀_row (t : Fin (cfgA hO).N) :
    defs₀ (F := F) .tc (cfgA hO).body ((cfgA hO).bodyArgs t ((cfgA hO).slots t)) = bodyAt hO t := by
  unfold defs₀; rw [Defs.onTc_tc]; rfl

/-- The tables as the body reads them, one by one. -/
theorem prefHeld_eq (q : Fin 5 → PosShare TreeShare) (v : pre0.Contents (Elt F)) :
    (Pipeline.prefHeld pre0 c q v : Asrt F)
      = iprop((((c : Thread nD τ).loc main_v25) ↦{q 0} v 0) ∗ (((c : Thread nD τ).loc main_v49) ↦{q 1} v 1) ∗ (((c : Thread nD τ).loc main_v1) ↦{q 2} v 2)
          ∗ (((c : Thread nD τ).loc main_v0) ↦{q 3} v 3) ∗ (((c : Thread nD τ).loc main_v13) ↦{q 4} v 4)) := by
  unfold Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-- A visit that starts a tile ignores what the block held; another finds what the point before left. -/
theorem Ob_step (n : ℕ) (hn : n < nv (size m 0)) (o : Vec F S256x1408 .bf16)
    (h : (n = 0 ∨ tid (size m 0) (n - 1) ≠ tid (size m 0) n) ∨ o = Ob hO c (n - 1)) : put hO c n o = Ob hO c n := by
  have h31 := nv_le (hO 0)
  have h1 := tid16 hO n
  have h2 := tid16 hO (n - 1)
  have hf : (n = 0 ∨ tid (size m 0) (n - 1) ≠ tid (size m 0) n) → ∀ o', put hO c n o = put hO c n o' := fun h o' => by
    unfold put
    refine pay4_fresh _ _ _ (by omega) (by omega) ?_ _ _ _ _ _ _ _
    rw [coords_pt hO n (by omega)]
    exact h
  cases n with
  | zero => exact hf (Or.inl rfl) _
  | succ n =>
    rw [show Ob hO c (n + 1) = put hO c (n + 1) (Ob hO c n) from if_pos hn]
    rcases h with h | h
    · exact hf h _
    · rw [h]; rfl

/-- What the body leaves in the output's buffer is what the proof data state. -/
theorem leave_3 (t : Fin (cfgA hO).N) (d) (B Y : Vec F S256x1408 .bf16) (hB : B = (dats hO 0 c).before 3 t d)
    (hY : Y = if t.val < nv (size m 0) then put hO c t.val B else B) :
    owns (c : Thread nD τ) (st_3 hO t) fullShare Y ⊢ (dats hO 0 c).leavesExact 3 t := by
  have hi := idle_3 hO t
  have hb := hB.trans (before_3 hO c t d)
  have hf := fresh_3 hO t.val (lt31 hO t)
  by_cases h : t.val < nv (size m 0)
  · rw [decide_eq_true h] at hi
    replace hY := hY.trans (if_pos h)
    have e : Y = (dats hO 0 c).after 3 t := by
      rw [hY, after_3]
      refine Ob_step hO c t.val h _ ?_
      rw [hb]
      by_cases hfr : (cfgA hO).fresh 3 t.val = true
      · exact Or.inl (hf hfr)
      · rw [if_neg hfr, after_3]
        exact Or.inr rfl
    rw [e]
    unfold Dat.leavesExact
    rw [hi]
    exact .rfl
  · rw [decide_eq_false h] at hi
    replace hY := hY.trans (if_neg h)
    cases hfl : ((cfgA hO).win 3).flush t with
    | false =>
      rw [Dat.leavesExact_idle _ _ _ hi hfl]
      rw [hY, hB]
      iintro H
      iexists d
      iexact H
    | true =>
      have hp := nv_pos (hO 0)
      have ht0 : t.val ≠ 0 := by omega
      have hnf : ¬ (cfgA hO).fresh 3 t.val = true := fun hh => by
        rcases hf hh with h0 | h0
        · exact ht0 h0
        · obtain ⟨n, hn⟩ : ∃ n, t.val = n + 1 := ⟨t.val - 1, by omega⟩
          rw [hn] at h h0
          exact h0 (Visits.idle_eq (by omega)).2.symm
      rw [hY, hb, if_neg hnf, ← carry_3 hO c t ht0 hi]
      unfold Dat.leavesExact
      rw [hi, hfl]
      exact .rfl

/-- The body at any point. -/
theorem sound_body (t : Fin (cfgA hO).N) :
    iprop(Phi hO c t.val ∗ (dats hO 0 c).owesAt () t.castSucc
        ∗ (∃ d, owns (c : Thread nD τ) (st_0 hO t) fullShare ((dats hO 0 c).before 0 t d))
        ∗ (∃ d, owns (c : Thread nD τ) (st_1 hO t) fullShare ((dats hO 0 c).before 1 t d))
        ∗ (∃ d, owns (c : Thread nD τ) (st_2 hO t) fullShare ((dats hO 0 c).before 2 t d))
        ∗ (∃ d, owns (c : Thread nD τ) (st_3 hO t) fullShare ((dats hO 0 c).before 3 t d)))
      ⊢ wp frame (wpE (defs₀ (F := F)) Variants.none c none) Set.univ (bodyAt hO t) (fun _ =>
        iprop(Phi hO c (t.val + 1) ∗ (dats hO 0 c).owesAt () t.succ
          ∗ owns (c : Thread nD τ) (st_0 hO t) fullShare ((dats hO 0 c).after 0 t)
          ∗ owns (c : Thread nD τ) (st_1 hO t) fullShare ((dats hO 0 c).after 1 t)
          ∗ owns (c : Thread nD τ) (st_2 hO t) fullShare ((dats hO 0 c).after 2 t)
          ∗ (dats hO 0 c).leavesExact 3 t)) := by
  have ht := lt31 hO t
  have hi : ((grid0.coords t) 0).val = t.val := coords_val hO t
  have hg16 := gid16 hO t.val
  have hp16 := gid16 hO (t.val - 1)
  have ht16 := tid16 hO t.val
  have hq16 := tid16 hO (t.val - 1)
  have hnv := nv_le (hO 0)
  have hp := pt_val hO t
  have hoff6 : k0_off6 (BitVec.ofNat 32 (gid (size m 0) t.val)) = ![gid (size m 0) t.val] :=
    congrArg (fun n => ![n]) (ofNat_toNat hO _ (by omega))
  have hfg : fires (grid0.coords t) (BitVec.ofNat 32 (nv (size m 0))) (BitVec.ofNat 32 (gid (size m 0) (t.val - 1))) (BitVec.ofNat 32 (gid (size m 0) t.val)) = 1#1 ↔ newG (m := m) t.val := by
    rw [fires_iff _ _ _ _ hnv (by omega) (by omega), hi]; rfl
  have hft : fires (grid0.coords t) (BitVec.ofNat 32 (nv (size m 0))) (BitVec.ofNat 32 (tid (size m 0) (t.val - 1))) (BitVec.ofNat 32 (tid (size m 0) t.val)) = 1#1 ↔ newT (m := m) t.val := by
    rw [fires_iff _ _ _ _ hnv (by omega) (by omega), hi]; rfl
  have hc3 : k0_cond3 (grid0.coords t) (BitVec.ofNat 32 (nv (size m 0))) = 1#1 ↔ t.val < nv (size m 0) := by
    rw [cond3_iff _ _ hnv, hi]
  simp only [before_0, before_1, before_2]
  rw [show (dats hO 0 c).owesAt () t.succ = (dats hO 0 c).owesAt () t.castSucc from rfl, after_0, after_1, after_2]
  unfold Phi
  rw [prefHeld_eq]
  iintro ⟨⟨⟨%X10, %h10, H10⟩, ⟨%X11, %h11, H11⟩, ⟨%X12, %h12, H12⟩, Hr, T0, T1, T2, T3, T4⟩, Ho, ⟨%d0, H0⟩, ⟨%d1, H1⟩, ⟨%d2, H2⟩, ⟨%d3, H3⟩⟩
  obtain ⟨B, hB⟩ : ∃ B : Vec F S256x1408 .bf16, B = (dats hO 0 c).before 3 t d3 := ⟨_, rfl⟩
  iapply (Body.run c Set.univ (grid0.coords t) (Memref.whole main_v25) (Memref.isWhole_whole _) (Memref.whole main_v49) (Memref.isWhole_whole _)
    (Memref.whole main_v1) (Memref.isWhole_whole _) (Memref.whole main_v0) (Memref.isWhole_whole _) (Memref.whole main_v13) (Memref.isWhole_whole _)
    (st_0 hO t) (hstage0_0 (((cfgA hO).slots t 0).cast nbuf0_0)) (st_1 hO t) (hstage0_1 (((cfgA hO).slots t 1).cast nbuf0_1))
    (st_2 hO t) (hstage0_2 (((cfgA hO).slots t 2).cast nbuf0_2)) (st_3 hO t) (hstage0_3 (((cfgA hO).slots t 3).cast nbuf0_3))
    (Memref.whole cc0_scratch0) (Memref.isWhole_whole _) (Memref.whole cc0_scratch1) (Memref.isWhole_whole _) (Memref.whole cc0_scratch2) (Memref.isWhole_whole _)
    (pf m 0 0) (pf m 0 1) (pf m 0 2) (pf m 0 3) (pf m 0 4)
    (iblk hO c 0 t) (iblk hO c 1 t) (iblk hO c 2 t) B X10 X11 X12 fullShare.right
    (BitVec.ofNat 32 (gid (size m 0) t.val)) (BitVec.ofNat 32 (gid (size m 0) (t.val - 1)))
    (BitVec.ofNat 32 (tid (size m 0) t.val)) (BitVec.ofNat 32 (tid (size m 0) (t.val - 1))) (BitVec.ofNat 32 (nv (size m 0)))
    (BitVec.ofNat 32 (pre (size m 0) (gid (size m 0) t.val))) (BitVec.ofNat 32 (pre (size m 0) (gid (size m 0) t.val + 1)))
    (word_gid hO (grid0.coords t) _ t.val ht ((k0_off1_eq _).trans (by rw [hi])) _ _)
    (word_gid hO (grid0.coords t) _ (t.val - 1) (by omega) ((off2_eq _).trans (by rw [hi])) _ _)
    (word_tid hO (grid0.coords t) _ t.val ht ((k0_off1_eq _).trans (by rw [hi])) _ _)
    (word_tid hO (grid0.coords t) _ (t.val - 1) (by omega) ((off2_eq _).trans (by rw [hi])) _ _)
    ((congrArg (pf m 0 4) (emb_unit1 0 (by omega) _ rfl _ _)).trans (pf4 hO 0))
    (fun h => (congrArg (pf m 0 2) (emb_unit1 _ hg16 _ hoff6 h _)).trans (pf2 0 ⟨_, hg16⟩))
    (fun h => (congrArg (pf m 0 3) (emb_unit1 _ hg16 _ hoff6 h _)).trans (pf3 0 ⟨_, hg16⟩))
    (fun _ a => by rw [hoff6]; fin_cases a; show gid (size m 0) t.val + 1 ≤ 16; omega) _)
  isplitl [T0]; · iexact T0
  isplitl [T1]; · iexact T1
  isplitl [T2]; · iexact T2
  isplitl [T3]; · iexact T3
  isplitl [T4]; · iexact T4
  isplitl [H0]; · iexact H0
  isplitl [H1]; · iexact H1
  isplitl [H2]; · iexact H2
  isplitl [H3]; · rw [hB]; iexact H3
  isplitl [H10]; · iexact H10
  isplitl [H11]; · iexact H11
  isplitl [H12]; · iexact H12
  have e10 : (if newG (m := m) t.val then deq (iblk hO c 1 t) (iblk hO c 2 t) else X10) = Wt hO c t.val := by
    rw [← Wt_step hO c t.val X10 h10]; unfold x1 x2; rw [hp]
  have e11 : (if newT (m := m) t.val then qx (iblk hO c 0 t) else X11) = Xq hO c t.val := by
    rw [← Xq_step hO c t.val X11 h11]; unfold x0; rw [hp]
  have e12 : (if newT (m := m) t.val then qs (iblk hO c 0 t) else X12) = Sc hO c t.val := by
    rw [← Sc_step hO c t.val X12 h12]; unfold x0; rw [hp]
  simp only [hfg, hft, hc3, e10, e11, e12]
  iintro ⟨T0, T1, T2, T3, T4, H0, H1, H2, H3, H10, H11, H12⟩
  isplitl [T0 T1 T2 T3 T4 H10 H11 H12 Hr]
  · isplitl [H10]
    · iexists _; isplitr; swap; · iexact H10
      · ipureintro; intro _; rfl
    isplitl [H11]
    · iexists _; isplitr; swap; · iexact H11
      · ipureintro; intro _; rfl
    isplitl [H12]
    · iexists _; isplitr; swap; · iexact H12
      · ipureintro; intro _; rfl
    isplitl [Hr]; · iexact Hr
    isplitl [T0]; · iexact T0
    isplitl [T1]; · iexact T1
    isplitl [T2]; · iexact T2
    isplitl [T3]; · iexact T3
    iexact T4
  isplitl [Ho]; · iexact Ho
  isplitl [H0]; · iexact H0
  isplitl [H1]; · iexact H1
  isplitl [H2]; · iexact H2
  iapply (leave_3 hO c t d3 B _ hB (by unfold put; rw [hp]))
  iexact H3

/-- The library's body obligation, at every point. -/
theorem body_obligation : BodyObligation (dats hO 0 c) (defs₀ (F := F)) Variants.none () Set.univ := fun t => by
  rw [bigSep_W0, bigSep_W0, defs₀_row, Phi_eq, Phi_eq]
  exact triple_restated (sound_body hO c t) rfl .rfl fun _ => .rfl

end Cert.Kernel.Run

end

end
-- ==== Proof.LaunchK.lean ====
/-
  The launch of the kernel: every execution ends, the arguments are as launched, every counter is at zero, and the output
  array holds what the blocks written back leave.
-/
module

public import proofs.«01_k».proof.Proof.RunK

@[expose] public section

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel Cert.Kernel.Gen Cert.Kernel.Points Cert.Kernel.Config Cert.Kernel.Run

variable {F : FTy → Type} [FloatOps F]
variable {m : (ℓ : Loc nD τ sig) → Buf (Elt F) ℓ} (hO : Ok m) (ρ : Dev nD → PrngReg)

/-- @main up to the grid. -/
theorem hmain : HMainP (Ix := Unit) (Name := ℕ) (U := UR sig nD τ) (Lvl := ℕ) (pcfgs (F := F)) 0 defs₀ Variants.none m (main (F := F)) (fun c b => Entry.V m c b) :=
  Pipeline.hmainP_prefixes (pcfgs (F := F)) 0 defs₀ Variants.none m main Entry.hostOps
    ⟨hostOps0_sub, hostOps0_1_sub, hostOps0_2_sub, hostOps0_3_sub, hostOps0_4_sub, hostOps0_5_sub, hostOps0_6_sub, hostOps0_7_sub, hostOps0_8_sub⟩
    (by simp only [List.Forall]; repeat' constructor) main_chain

/-- The tables when the grid starts, on every core. -/
theorem V_pre (c : Dev nD) (k : Fin 5) : Entry.V m c (pre0.ref k) = (adm hO).1 k := by
  rw [Subsingleton.elim c 0]; rfl

attribute [local irreducible] Points.pf

/-- The invariant at the first point. -/
theorem hin (c : Dev nD) : iprop(ΦA spec0 c ∗ Pipeline.prefHeld pre0 c (fun _ => fullShare.right) (pf m 0)) ⊢ (dats hO 0 c).Φ 0 := by
  rw [Phi_eq]
  unfold Phi ΦA
  rw [scopedRest0_eq]
  simp only [owns_whole]
  iintro ⟨⟨⟨⟨%a, Ha⟩, ⟨%b, Hb⟩, ⟨%d, Hd⟩⟩, Hr⟩, Hp⟩
  isplitl [Ha]
  · iexists a; isplitr; swap; · iexact Ha
    · ipureintro; intro h; exact absurd rfl h
  isplitl [Hb]
  · iexists b; isplitr; swap; · iexact Hb
    · ipureintro; intro h; exact absurd rfl h
  isplitl [Hd]
  · iexists d; isplitr; swap; · iexact Hd
    · ipureintro; intro h; exact absurd rfl h
  isplitl [Hr]; · iexact Hr
  iexact Hp

/-- The invariant at the last point gives the scratch back. -/
theorem hout (c : Dev nD) : (dats hO 0 c).Φ (Fin.last (cfgA hO).N) ⊢ ΦA spec0 c := by
  rw [Phi_eq]
  unfold Phi ΦA
  rw [scopedRest0_eq]
  simp only [owns_whole]
  iintro ⟨⟨%a, -, Ha⟩, ⟨%b, -, Hb⟩, ⟨%d, -, Hd⟩, Hr, -⟩
  isplitl [Ha Hb Hd]
  · isplitl [Ha]; · iexists a; iexact Ha
    isplitl [Hb]; · iexists b; iexact Hb
    iexists d; iexact Hd
  iexact Hr

set_option backward.isDefEq.respectTransparency.types false in
set_option maxHeartbeats 800000 in
/-- Every execution ends, with every array of the grid at what its blocks leave, every other buffer as the grid found it,
    and every counter at zero. -/
theorem run_main : θ_run defs (onTc (τ := τ) (main (F := F))) (s₀ m ρ)
    (fun r => FramePost (pin pcfgs (fun _ => adm hO)) (dats hO) 0 (fun c b => Entry.V m c b) r ∧ r.2.sem = fun _ => 0) :=
  Pipeline.θ_run_frameP_track (Q' := _) pcfgs (fun _ => adm hO) (dats hO) (0 : Fin 1) launch0 defs₀ Variants.none m ρ main
    (hbody := fun c => (body_obligation hO c).loose) (hshare := fun c => (dats hO 0 c).share_full fun _ => rfl)
    (howed := fun _ _ => rfl) (V := fun c b => Entry.V m c b) (hmain := hmain) (hA := fun c w => A_eq hO c w)
    (hpf := V_pre hO) (hin := hin hO) (hout := hout hO)

/-- The output array after the run. -/
def out (c : Dev nD) : (⟨2, ![4096, 1408]⟩ : Shape).Idx → Elt F .bf16 := (dats hO 0 c).arrAt 3 (cfgA hO).N

/-- What the run ends with: the output array and the arguments. -/
theorem values : θ_run defs (onTc (τ := τ) (main (F := F))) ⟨m, fun _ => 0, ρ⟩ (fun r => ∀ c : Dev nD,
      r.2.mem ((c.tc : Thread nD τ).loc main_v50) = out hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).1 3,
      ((h.1 c).1 0).trans (((dats hO 0 c).arrAt_in 0 rfl _).trans ((A_eq hO c 0).trans (Entry.V_arg0 m c))),
      ((h.1 c).2 main_arg1 (Pipeline.mem_restRefs_of main_arg1 (by decide) (by exact (by decide : ∀ w : Fin 4, (spec0 w).arr.view.ref ≠ main_arg1)))).trans (Entry.V_arg1 m c),
      ((h.1 c).1 1).trans (((dats hO 0 c).arrAt_in 1 rfl _).trans ((A_eq hO c 1).trans (Entry.V_arg2 m c))),
      ((h.1 c).1 2).trans (((dats hO 0 c).arrAt_in 2 rfl _).trans ((A_eq hO c 2).trans (Entry.V_arg3 m c)))⟩) (run_main hO ρ)

include hO in
/-- Every execution ends, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (values hO ρ)) ((θ_run defs _ _).mono (fun _ h => h.2) (run_main hO ρ))

end Cert.Kernel.Launch

end

end
-- ==== Proof.Quant.lean ====
/-
  The power-of-two scale of a row, at one number: the search over exponent fields finds the field of the greatest power
  of two at most `q`, so that it and the logarithm name the same power of two.
-/
module

public import proofs.«01_k».proof.Proof.Body
public import Idealize.ShloMosaic.Lib.Pointwise

@[expose] public section

set_option maxRecDepth 16384

noncomputable section

namespace Cert.Quant

open Idealize.ShloMosaic

/-- The number whose exponent field is `w`, its significand one. -/
def fl (w : BitVec 32) : EReal := Ideal.ofBits .f32 (IntOp.shli .vector w 23#32)

/-- One step of the search: `s` is added to the field if the number it names is at most `q`. -/
def step (q : EReal) (s b : BitVec 32) : BitVec 32 :=
  Scalar.select (Ideal.cmp .oge q (fl (b + s))) (b + s) b

/-- The eight steps. -/
def field (q : EReal) : BitVec 32 :=
  step q 1#32 (step q 2#32 (step q 4#32 (step q 8#32 (step q 16#32 (step q 32#32 (step q 64#32 (step q 128#32 0#32)))))))

/-- The exponent the search gives: zero below the normal numbers. -/
def kexp (q : EReal) : BitVec 32 :=
  Scalar.select (IntOp.cmpi .eq (field q) 0#32) 0#32 (field q - 126#32)

/-- The exponent by the logarithm: zero below the normal numbers. -/
def rexp (q : EReal) : EReal :=
  Scalar.select (Ideal.cmp .olt q (Ideal.ofBits .f32 0x00800000#32)) (Ideal.ofBits .f32 0#32)
    (Ideal.liftRound Int.floor (Ideal.div (Ideal.log q) (Ideal.log (Ideal.ofBits .f32 0x40000000#32))) + Ideal.ofBits .f32 0x3F800000#32)

theorem shl_bits : ∀ k : Fin 256,
    ((IntOp.shli .vector (BitVec.ofNat 32 k.val) 23#32).extractLsb' 23 8).toNat = k.val
    ∧ ((IntOp.shli .vector (BitVec.ofNat 32 k.val) 23#32).extractLsb' 0 23).toNat = 0
    ∧ ((IntOp.shli .vector (BitVec.ofNat 32 k.val) 23#32).extractLsb' 31 1 == 1#1) = false := by
  decide +kernel

/-- A word with no sign, exponent field `k` and a zero fraction names a power of two. -/
theorem ieee_pow (w : BitVec 32) (k : ℕ) (a : (w.extractLsb' 23 8).toNat = k) (b : (w.extractLsb' 0 23).toNat = 0)
    (c : (w.extractLsb' 31 1 == 1#1) = false) (h1 : k ≠ 0) (h2 : k ≠ 2 ^ 8 - 1) :
    Ideal.ieee 8 23 w = (((2 : ℝ) ^ ((k : ℤ) - 127) : ℝ) : EReal) := by
  unfold Ideal.ieee
  dsimp only
  rw [a, b, c, if_neg h2, if_neg h1]
  refine congrArg _ ?_
  have e : (2 : ℝ) ^ ((k : ℤ) - 127) = 2 ^ ((k : ℤ) - 127 - 23) * 2 ^ (23 : ℤ) := by
    rw [← zpow_add₀ (by norm_num)]; congr 1; ring
  rw [e]
  norm_num
  ring

theorem ieee_top (w : BitVec 32) (a : (w.extractLsb' 23 8).toNat = 2 ^ 8 - 1) (b : (w.extractLsb' 0 23).toNat = 0)
    (c : (w.extractLsb' 31 1 == 1#1) = false) : Ideal.ieee 8 23 w = ⊤ := by
  unfold Ideal.ieee
  dsimp only
  rw [a, b, c, if_pos rfl, if_pos rfl]
  rfl

theorem fl_ieee (w : BitVec 32) : fl w = Ideal.ieee 8 23 (IntOp.shli .vector w 23#32) := rfl

theorem fl_coe (k : ℕ) (h1 : 1 ≤ k) (h2 : k ≤ 254) : fl (BitVec.ofNat 32 k) = (((2 : ℝ) ^ ((k : ℤ) - 127) : ℝ) : EReal) := by
  obtain ⟨a, b, c⟩ := shl_bits ⟨k, by omega⟩
  rw [fl_ieee]
  exact ieee_pow _ k a b c (by omega) (by norm_num; omega)

theorem fl_top : fl (BitVec.ofNat 32 255) = ⊤ := by
  obtain ⟨a, b, c⟩ := shl_bits ⟨255, by omega⟩
  rw [fl_ieee]
  exact ieee_top _ a b c

section
variable {r : ℝ} {N : ℕ} (hN : N ≤ 254) (hr : ∀ k : ℕ, 1 ≤ k → k ≤ 254 → ((2 : ℝ) ^ ((k : ℤ) - 127) ≤ r ↔ k ≤ N))
include hN hr

theorem step_eq (s b : ℕ) (h1 : 1 ≤ b + s) (h2 : b + s ≤ 255) :
    step (r : EReal) (BitVec.ofNat 32 s) (BitVec.ofNat 32 b) = BitVec.ofNat 32 (if b + s ≤ N then b + s else b) := by
  unfold step
  rw [← BitVec.ofNat_add]
  have e : (fl (BitVec.ofNat 32 (b + s)) ≤ (r : EReal)) ↔ b + s ≤ N := by
    rcases Nat.lt_or_ge (b + s) 255 with h | h
    · rw [fl_coe _ h1 (by omega), EReal.coe_le_coe_iff]; exact hr _ h1 (by omega)
    · obtain h : b + s = 255 := by omega
      rw [h, fl_top]
      constructor
      · intro h; exact absurd (top_le_iff.mp h) (EReal.coe_ne_top r)
      · intro h; omega
  unfold Scalar.select
  by_cases h : b + s ≤ N
  · rw [if_pos ((Ideal.cmp_oge_eq_one _ _).mpr (e.mpr h)), if_pos h]
  · rw [if_neg (fun h' => h (e.mp ((Ideal.cmp_oge_eq_one _ _).mp h'))), if_neg h]

/-- The steps over the natural numbers. -/
theorem field_eq : field (r : EReal) = BitVec.ofNat 32 N := by
  have key : ∀ n : Fin 255, ∀ f : ℕ → ℕ → ℕ, (f = fun s b => if b + s ≤ n.val then b + s else b) →
      (f 128 0 ≤ 128 ∧ f 64 (f 128 0) ≤ 192 ∧ f 32 (f 64 (f 128 0)) ≤ 224 ∧ f 16 (f 32 (f 64 (f 128 0))) ≤ 240
      ∧ f 8 (f 16 (f 32 (f 64 (f 128 0)))) ≤ 248 ∧ f 4 (f 8 (f 16 (f 32 (f 64 (f 128 0))))) ≤ 252
      ∧ f 2 (f 4 (f 8 (f 16 (f 32 (f 64 (f 128 0)))))) ≤ 254
      ∧ f 1 (f 2 (f 4 (f 8 (f 16 (f 32 (f 64 (f 128 0))))))) = n.val) := by
    rintro n f rfl
    revert n
    decide +kernel
  obtain ⟨k1, k2, k3, k4, k5, k6, k7, k8⟩ := key ⟨N, by omega⟩ _ rfl
  dsimp only at k1 k2 k3 k4 k5 k6 k7 k8
  unfold field
  rw [step_eq hN hr 128 0 (by omega) (by omega), step_eq hN hr 64 _ (by omega) (by omega), step_eq hN hr 32 _ (by omega) (by omega),
    step_eq hN hr 16 _ (by omega) (by omega), step_eq hN hr 8 _ (by omega) (by omega), step_eq hN hr 4 _ (by omega) (by omega),
    step_eq hN hr 2 _ (by omega) (by omega), step_eq hN hr 1 _ (by omega) (by omega), k8]

end

theorem ofBits_two : Ideal.ofBits .f32 0x40000000#32 = ((2 : ℝ) : EReal) := by
  have := fl_coe 128 (by norm_num) (by norm_num)
  norm_num at this
  exact this

theorem ofBits_tiny : Ideal.ofBits .f32 0x00800000#32 = (((2 : ℝ) ^ (-126 : ℤ) : ℝ) : EReal) := fl_coe 1 (by norm_num) (by norm_num)

/-- The scale and its inverse, by the search and by the logarithm. -/
theorem scale_eq (r : ℝ) (h0 : 0 ≤ r) (h1 : r < 2 ^ (126 : ℤ)) :
    fl (kexp r + 127#32) = Ideal.exp2 (rexp r) ∧ fl (127#32 - kexp r) = Ideal.exp2 (Ideal.ofBits .f32 0#32 - rexp r) := by
  have z : Ideal.ofBits .f32 0#32 = ((0 : ℝ) : EReal) := by rw [Ideal.ofBits_zero_f32]; rfl
  by_cases h : r < 2 ^ (-126 : ℤ)
  · have f : field (r : EReal) = 0#32 := field_eq (N := 0) (by norm_num) (fun k k1 k2 => ⟨fun hk => by
      have : (2 : ℝ) ^ (-126 : ℤ) ≤ 2 ^ ((k : ℤ) - 127) := zpow_le_zpow_right₀ (by norm_num) (by omega)
      linarith, fun hk => by omega⟩)
    have e1 : kexp r = 0#32 := by unfold kexp; rw [f]; rfl
    have e2 : rexp r = ((0 : ℝ) : EReal) := by
      unfold rexp Scalar.select
      rw [if_pos (by rw [Ideal.cmp_olt_eq_one, ofBits_tiny, EReal.coe_lt_coe_iff]; exact h), z]
    have o := fl_coe 127 (by norm_num) (by norm_num)
    rw [e1, e2, z, ← EReal.coe_sub]
    constructor
    · refine o.trans ?_
      rw [Ideal.exp2_coe]
      refine congrArg _ ?_
      show _ = (2 : ℝ) ^ (_ : ℝ)
      norm_num
    · refine o.trans ?_
      rw [Ideal.exp2_coe]
      refine congrArg _ ?_
      show _ = (2 : ℝ) ^ (_ : ℝ)
      norm_num
  · have hr : 0 < r := lt_of_lt_of_le (by positivity) (not_lt.mp h)
    obtain ⟨e, he⟩ : ∃ e : ℤ, e = ⌊Real.log r * (Real.log 2)⁻¹⌋ := ⟨_, rfl⟩
    have p2 : 0 < Real.log 2 := Real.log_pos (by norm_num)
    have l1 : (2 : ℝ) ^ e ≤ r := by
      rw [← Real.log_le_log_iff (by positivity) hr, Real.log_zpow, he, ← le_div_iff₀ p2, div_eq_mul_inv]
      exact Int.floor_le _
    have l2 : r < (2 : ℝ) ^ (e + 1) := by
      rw [← Real.log_lt_log_iff hr (by positivity), Real.log_zpow, he, ← div_lt_iff₀ p2, div_eq_mul_inv]
      push_cast
      exact Int.lt_floor_add_one _
    have b1 : -126 ≤ e := by
      by_contra hc
      have : (2 : ℝ) ^ (e + 1) ≤ 2 ^ (-126 : ℤ) := zpow_le_zpow_right₀ (by norm_num) (by omega)
      exact h (lt_of_lt_of_le l2 this)
    have b2 : e ≤ 125 := by
      by_contra hc
      have : (2 : ℝ) ^ (126 : ℤ) ≤ 2 ^ e := zpow_le_zpow_right₀ (by norm_num) (by omega)
      linarith
    obtain ⟨N, hN⟩ : ∃ N : ℕ, (N : ℤ) = e + 127 := ⟨(e + 127).toNat, by omega⟩
    have f : field (r : EReal) = BitVec.ofNat 32 N := field_eq (N := N) (by omega) (fun k k1 k2 => ⟨fun hk => by
      by_contra hc
      have : (2 : ℝ) ^ (e + 1) ≤ 2 ^ ((k : ℤ) - 127) := zpow_le_zpow_right₀ (by norm_num) (by omega)
      linarith, fun hk => le_trans (zpow_le_zpow_right₀ (by norm_num) (by omega)) l1⟩)
    have e1 : kexp r = BitVec.ofNat 32 N - 126#32 := by
      unfold kexp Scalar.select
      rw [f, if_neg]
      intro hc
      have hc' : BitVec.ofNat 32 N = 0#32 := StableHlo.Predicate.cmpi_eq_iff.mp hc
      have := congrArg BitVec.toNat hc'
      rw [BitVec.toNat_ofNat, Nat.mod_eq_of_lt (by omega)] at this
      simp at this
      omega
    have w1 : BitVec.ofNat 32 N - 126#32 + 127#32 = BitVec.ofNat 32 (N + 1) := by
      apply BitVec.eq_of_toNat_eq
      simp only [BitVec.toNat_add, BitVec.toNat_sub, BitVec.toNat_ofNat]
      omega
    have w2 : 127#32 - (BitVec.ofNat 32 N - 126#32) = BitVec.ofNat 32 (253 - N) := by
      apply BitVec.eq_of_toNat_eq
      simp only [BitVec.toNat_sub, BitVec.toNat_ofNat]
      omega
    have e2 : rexp r = (((e : ℝ) + 1 : ℝ) : EReal) := by
      unfold rexp Scalar.select
      rw [if_neg (by rw [Ideal.cmp_olt_eq_one, ofBits_tiny, EReal.coe_lt_coe_iff]; exact h), ofBits_two, Ideal.log_coe, Ideal.log_coe,
        if_neg (not_le.mpr hr), if_neg (by norm_num)]
      have l : Ideal.div (Real.log r : EReal) (Real.log 2 : EReal) = ((Real.log r * (Real.log 2)⁻¹ : ℝ) : EReal) := by
        unfold Ideal.div
        rw [if_neg (by rw [← EReal.coe_zero, EReal.coe_eq_coe_iff]; exact p2.ne'), EReal.coe_mul, EReal.coe_inv]
      rw [l, Ideal.liftRound_coe, ← he, Ideal.ofBits_one_f32, EReal.coe_add]
      rfl
    rw [e1, w1, w2, e2, z, ← EReal.coe_sub, fl_coe _ (by omega) (by omega), fl_coe _ (by omega) (by omega), Ideal.exp2_coe, Ideal.exp2_coe]
    constructor
    · refine congrArg _ ?_
      show _ = (2 : ℝ) ^ ((e : ℝ) + 1)
      rw [← Real.rpow_intCast]
      congr 1
      push_cast
      have : (N : ℝ) = e + 127 := by exact_mod_cast hN
      linarith
    · refine congrArg _ ?_
      show _ = (2 : ℝ) ^ (0 - ((e : ℝ) + 1))
      rw [← Real.rpow_intCast]
      congr 1
      have : ((253 - N : ℕ) : ℤ) = 253 - N := by omega
      rw [this]
      push_cast
      have : (N : ℝ) = e + 127 := by exact_mod_cast hN
      linarith

end Cert.Quant

end

end
-- ==== Proof.RefTail.lean ====
/-
  What the reference's host operations make of the four arrays its call leaves: the unpacked weights of every expert,
  the rows of every expert, every expert's product, the sum of the products over the expert that owns the row, and the
  rows' scales multiplied in.
-/
module

public import proofs.«01_k».proof.Proof.Gen.ReferenceIdeal.Frame
public import Idealize.ShloMosaic.Lib.Claim

@[expose] public section

set_option maxRecDepth 16384

noncomputable section

namespace Cert.ReferenceIdeal.Tail

open Idealize.ShloMosaic Idealize.ShloMosaic.TcCoe Idealize.ShloMosaic.Tactic
open Idealize.SL Idealize.SL.RA Idealize.SL.BI Idealize.SL.Sem
open Cert.ReferenceIdeal Cert.ReferenceIdeal.Gen

variable {F : FTy → Type} [FloatOps F]

/-- One of the two 4-bit fields of the packed weights, times its group's scale. -/
def scaled (f : FVec F S16x1536x1408 .bf16) (s : FVec F S16x24x1408 .f32) : FVec F S16x1536x1408 .bf16 :=
  shapeCast S16x1536x1408
    (mulf (shapeCast S16x24x64x1408 f Facts₀.shapeCasts_S16x1536x1408_S16x24x64x1408)
      (broadcastInDim S16x24x64x1408 ![0, 1, 2, 3] Facts₀.bcast_S16x24x1x1408_S16x24x64x1408_0_1_2_3
        (broadcastInDim S16x24x1x1408 ![0, 1, 3] Facts₀.bcast_S16x24x1408_S16x24x1x1408_0_1_3 (truncf .bf16 s Facts₀.bitsLt_bf16_f32))))
    Facts₀.shapeCasts_S16x24x64x1408_S16x1536x1408

/-- The weights of every expert: the two fields in turn along the rows. -/
def weights (lo hi : FVec F S16x1536x1408 .bf16) (s : FVec F S16x24x1408 .f32) : FVec F S16x3072x1408 .bf16 :=
  shapeCast S16x3072x1408
    (concatenate S16x1536x2x1408 2
      [⟨S16x1536x1x1408, broadcastInDim S16x1536x1x1408 ![0, 1, 3] Facts₀.bcast_S16x1536x1408_S16x1536x1x1408_0_1_3 (scaled lo s)⟩,
       ⟨S16x1536x1x1408, broadcastInDim S16x1536x1x1408 ![0, 1, 3] Facts₀.bcast_S16x1536x1408_S16x1536x1x1408_0_1_3 (scaled hi s)⟩]
      Facts₀.concatenates_S16x1536x1x1408_S16x1536x1x1408_S16x1536x2x1408_d2)
    Facts₀.shapeCasts_S16x1536x2x1408_S16x3072x1408

/-- The running sum of the group sizes: one past the last row of every expert. -/
def ends (g : IVec S16 32) : IVec S16 32 :=
  Host.reduceWindow IntOp.addi ![16] ![1] ![15] ![0] g (broadcastInDim S_ ![] Facts₀.bcast_S_S_ (constantI S_ 32 0#32))
    Facts₀.reduceWindows_S16_S16_w16s1p15_0 Facts₀.h_S_

/-- Whether a row is an expert's. -/
def mine (e g : IVec S16 32) : IVec S4096x16x1 1 :=
  broadcastInDim S4096x16x1 ![0, 1] Facts₀.bcast_S4096x16_S4096x16x1_0_1
    (andi
      (cmpi .sge
        (broadcastInDim S4096x16 ![0, 1] Facts₀.bcast_S4096x1_S4096x16_0_1 (broadcastInDim S4096x1 ![0] Facts₀.bcast_S4096_S4096x1_0 (iotaInDim S4096 32 0)))
        (broadcastInDim S4096x16 ![0, 1] Facts₀.bcast_S1x16_S4096x16_0_1 (broadcastInDim S1x16 ![1] Facts₀.bcast_S16_S1x16_1 (subi e g))))
      (cmpi .slt
        (broadcastInDim S4096x16 ![0, 1] Facts₀.bcast_S4096x1_S4096x16_0_1 (broadcastInDim S4096x1 ![0] Facts₀.bcast_S4096_S4096x1_0 (iotaInDim S4096 32 0)))
        (broadcastInDim S4096x16 ![0, 1] Facts₀.bcast_S1x16_S4096x16_0_1 (broadcastInDim S1x16 ![1] Facts₀.bcast_S16_S1x16_1 e))))

/-- Every row's product with every expert's weights. -/
def products (x : FVec F S4096x3072 .bf16) (w : FVec F S16x3072x1408 .bf16) : FVec F S4096x16x1408 .f32 :=
  Host.dotGeneral dot_S4096x3072_S16x3072x1408_S4096x16x1408_1_1_0_02_n_n none x w

/-- The products of the rows with the weights of the expert that owns them, zero elsewhere. -/
def masked (k : IVec S4096x16x1 1) (p : FVec F S4096x16x1408 .f32) (z : FVec F S_ .f32) : FVec F S4096x16x1408 .f32 :=
  select (broadcastInDim S4096x16x1408 ![0, 1, 2] Facts₀.bcast_S4096x16x1_S4096x16x1408_0_1_2 k) p
    (broadcastInDim S4096x16x1408 ![] Facts₀.bcast_S_S4096x16x1408 (id z))

/-- The sum over the experts, times the rows' scales. -/
def final (p : FVec F S4096x16x1408 .f32) (s : FVec F S4096x1 .f32) : FVec F S4096x1408 .bf16 :=
  truncf .bf16
    (mulf (Host.reduceAdd p (constant S_ .f32 0x00000000#32) Facts₀.reducesTo_S4096x16x1408_S4096x1408_d1 Facts₀.h_S_)
      (broadcastInDim S4096x1408 ![0, 1] Facts₀.bcast_S4096x1_S4096x1408_0_1 s)) Facts₀.bitsLt_bf16_f32

section
variable (σ : Valuation τ sig (Elt F))

/-- What the buffers read later hold after the first stretch of the host operations. -/
theorem stretch0 :
    StableHlo.after hostOps1 σ (Proc.devRef .tc main_v16)
      = weights (σ (Proc.devRef .tc main_v0_2)) (σ (Proc.devRef .tc main_v0_3)) (σ (Proc.devRef .tc main_arg3))
    ∧ StableHlo.after hostOps1 σ (Proc.devRef .tc main_v0_0) = σ (Proc.devRef .tc main_v0_0)
    ∧ StableHlo.after hostOps1 σ (Proc.devRef .tc main_v0_1) = σ (Proc.devRef .tc main_v0_1)
    ∧ StableHlo.after hostOps1 σ (Proc.devRef .tc main_arg1) = σ (Proc.devRef .tc main_arg1) := by
  refine ⟨?_, ?_, ?_, ?_⟩ <;>
  · entry_read
    try simp -implicitDefEqProofs only [StableHlo.TRef.toBuf, StableHlo.TRef.ofBuf, cast_cast, cast_eq]
    try rfl

/-- What the buffers read later hold after the second. -/
theorem stretch1 :
    StableHlo.after hostOps1_1 σ (Proc.devRef .tc main_v17) = ends (σ (Proc.devRef .tc main_arg1))
    ∧ StableHlo.after hostOps1_1 σ (Proc.devRef .tc main_v16) = σ (Proc.devRef .tc main_v16)
    ∧ StableHlo.after hostOps1_1 σ (Proc.devRef .tc main_v0_0) = σ (Proc.devRef .tc main_v0_0)
    ∧ StableHlo.after hostOps1_1 σ (Proc.devRef .tc main_v0_1) = σ (Proc.devRef .tc main_v0_1)
    ∧ StableHlo.after hostOps1_1 σ (Proc.devRef .tc main_arg1) = σ (Proc.devRef .tc main_arg1) := by
  refine ⟨?_, ?_, ?_, ?_, ?_⟩ <;>
  · entry_read
    try simp -implicitDefEqProofs only [StableHlo.TRef.toBuf, StableHlo.TRef.ofBuf, cast_cast, cast_eq]
    try rfl

/-- What the buffers read later hold after the third. -/
theorem stretch2 :
    StableHlo.after hostOps1_2 σ (Proc.devRef .tc main_v30) = products (σ (Proc.devRef .tc main_v0_0)) (σ (Proc.devRef .tc main_v16))
    ∧ StableHlo.after hostOps1_2 σ (Proc.devRef .tc main_v31) = mine (σ (Proc.devRef .tc main_v17)) (σ (Proc.devRef .tc main_arg1))
    ∧ StableHlo.after hostOps1_2 σ (Proc.devRef .tc main_cst) = (constant S_ .f32 0x00000000#32 : FVec F S_ .f32)
    ∧ StableHlo.after hostOps1_2 σ (Proc.devRef .tc main_v0_1) = σ (Proc.devRef .tc main_v0_1) := by
  refine ⟨?_, ?_, ?_, ?_⟩ <;>
  · entry_read
    try simp -implicitDefEqProofs only [StableHlo.TRef.toBuf, StableHlo.TRef.ofBuf, cast_cast, cast_eq]
    try rfl

/-- What the buffers read later hold after the fourth. -/
theorem stretch3 :
    StableHlo.after hostOps1_3 σ (Proc.devRef .tc main_v32)
      = masked (σ (Proc.devRef .tc main_v31)) (σ (Proc.devRef .tc main_v30)) (σ (Proc.devRef .tc main_cst))
    ∧ StableHlo.after hostOps1_3 σ (Proc.devRef .tc main_v0_1) = σ (Proc.devRef .tc main_v0_1) := by
  refine ⟨?_, ?_⟩ <;>
  · entry_read
    try simp -implicitDefEqProofs only [StableHlo.TRef.toBuf, StableHlo.TRef.ofBuf, cast_cast, cast_eq]
    try rfl

/-- The result after the fifth. -/
theorem stretch4 : StableHlo.after hostOps1_4 σ (Proc.devRef .tc main_v36) = final (σ (Proc.devRef .tc main_v32)) (σ (Proc.devRef .tc main_v0_1)) := by
  entry_read
  try simp -implicitDefEqProofs only [StableHlo.TRef.toBuf, StableHlo.TRef.ofBuf, cast_cast, cast_eq]
  try rfl

/-- The result of all the host operations, from the call's four arrays, the group sizes and the scales. -/
theorem tail_eq :
    StableHlo.after (List.flatten [hostOps1, hostOps1_1, hostOps1_2, hostOps1_3, hostOps1_4]) σ (Proc.devRef .tc main_v36)
      = final (masked (mine (ends (σ (Proc.devRef .tc main_arg1))) (σ (Proc.devRef .tc main_arg1)))
          (products (σ (Proc.devRef .tc main_v0_0))
            (weights (σ (Proc.devRef .tc main_v0_2)) (σ (Proc.devRef .tc main_v0_3)) (σ (Proc.devRef .tc main_arg3))))
          (constant S_ .f32 0x00000000#32)) (σ (Proc.devRef .tc main_v0_1)) := by
  simp only [List.flatten_cons, List.flatten_nil, List.append_nil, StableHlo.after_append]
  rw [stretch4, (stretch3 _).1, (stretch3 _).2, (stretch2 _).1, (stretch2 _).2.1, (stretch2 _).2.2.1, (stretch2 _).2.2.2,
    (stretch1 _).1, (stretch1 _).2.1, (stretch1 _).2.2.1, (stretch1 _).2.2.2.1, (stretch1 _).2.2.2.2,
    (stretch0 _).1, (stretch0 _).2.1, (stretch0 _).2.2.1, (stretch0 _).2.2.2]

end

end Cert.ReferenceIdeal.Tail

end

end
-- ==== Proof.RefRun.lean ====
/-
  What the reference ends with: the host operations' result at the four arrays its call leaves, each of them one store of
  the whole array.
-/
module

public import proofs.«01_k».proof.Proof.RefTail
public import Idealize.ShloMosaic.Lib.Pipeline.Value
public import Idealize.ShloMosaic.Lib.Pipeline.ValueKit

@[expose] public section

set_option maxRecDepth 16384

noncomputable section

namespace Cert.ReferenceIdeal.Final

open Idealize.ShloMosaic Idealize.ShloMosaic.TcCoe Idealize.ShloMosaic.Tactic
open Idealize.SL Idealize.SL.RA Idealize.SL.BI Idealize.SL.Sem
open Idealize.ShloMosaic.Pipeline
open Cert.ReferenceIdeal Cert.ReferenceIdeal.Gen

variable {F : FTy → Type} [FloatOps F]
variable (m : (ℓ : Loc nD τ sig) → Buf (Elt F) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The quantised rows, -/
abbrev xq (c : Dev nD) : Buf (Elt F) ((c : Thread nD τ).loc main_v0_0) := k0_pay5 (F := F) (m ((c : Thread nD τ).loc main_arg0))
/-- their scales, -/
abbrev xs (c : Dev nD) : Buf (Elt F) ((c : Thread nD τ).loc main_v0_1) := k0_pay6 (F := F) (m ((c : Thread nD τ).loc main_arg0))
/-- the low fields of the packed weights, and -/
abbrev lo (c : Dev nD) : Buf (Elt F) ((c : Thread nD τ).loc main_v0_2) := k0_pay1 (F := F) (k0_pay8 (F := F) (m ((c : Thread nD τ).loc main_arg2)))
/-- the high ones. -/
abbrev hi (c : Dev nD) : Buf (Elt F) ((c : Thread nD τ).loc main_v0_3) := k0_pay2 (F := F) (k0_pay9 (F := F) (m ((c : Thread nD τ).loc main_arg2)))

/-- The one point of the call's grid. -/
abbrev t0 : Fin cfg0.N := ⟨0, by decide⟩

/-- Its first input block is the whole array, and -/
theorem blk0 (c : Dev nD) : (iblk m c 0 t0 : Vec F S4096x3072 .bf16) = m ((c : Thread nD τ).loc main_arg0) := by
  funext y
  unfold iblk
  rw [View.read_apply]
  refine congrArg (m ((c : Thread nD τ).loc main_arg0)) (funext fun a => Fin.ext ?_)
  have e : ∀ a, win0_0.index t0 a = 0 := by decide +kernel
  exact win0_0.rect_emb_val_of_index_zero t0 a (e a) y

/-- so is its second. -/
theorem blk1 (c : Dev nD) : (iblk m c 1 t0 : Vec F S16x1536x1408 .i8) = m ((c : Thread nD τ).loc main_arg2) := by
  funext y
  unfold iblk
  rw [View.read_apply]
  refine congrArg (m ((c : Thread nD τ).loc main_arg2)) (funext fun a => Fin.ext ?_)
  have e : ∀ a, win0_1.index t0 a = 0 := by decide +kernel
  exact win0_1.rect_emb_val_of_index_zero t0 a (e a) y

theorem arr2 (c : Dev nD) : (dats m 0 c).arrAt 2 cfg0.N = xq m c := by
  refine (dats m 0 c).arrAt_eq_of_after_last 2 t0 (by decide +kernel) _ fun j => ?_
  show (dats m 0 c).after 2 t0 j = xq m c j
  rw [after0_2, blk0, blk1]
  unfold out0_2
  rw [View.ld_unit_zero z2, View.canon_unit_zero z2]

theorem arr3 (c : Dev nD) : (dats m 0 c).arrAt 3 cfg0.N = xs m c := by
  refine (dats m 0 c).arrAt_eq_of_after_last 3 t0 (by decide +kernel) _ fun j => ?_
  show (dats m 0 c).after 3 t0 j = xs m c j
  rw [after0_3, blk0, blk1]
  unfold out0_3
  rw [View.ld_unit_zero z2, View.canon_unit_zero z2]

theorem arr4 (c : Dev nD) : (dats m 0 c).arrAt 4 cfg0.N = lo m c := by
  refine (dats m 0 c).arrAt_eq_of_after_last 4 t0 (by decide +kernel) _ fun j => ?_
  show (dats m 0 c).after 4 t0 j = lo m c j
  rw [after0_4, blk0, blk1]
  unfold out0_4
  rw [View.ld_unit_zero z3, View.canon_unit_zero z3]

theorem arr5 (c : Dev nD) : (dats m 0 c).arrAt 5 cfg0.N = hi m c := by
  refine (dats m 0 c).arrAt_eq_of_after_last 5 t0 (by decide +kernel) _ fun j => ?_
  show (dats m 0 c).after 5 t0 j = hi m c j
  rw [after0_5, blk0, blk1]
  unfold out0_5
  rw [View.ld_unit_zero z3, View.canon_unit_zero z3]

/-- The result. -/
def val (c : Dev nD) : Buf (Elt F) ((c : Thread nD τ).loc main_v36) :=
  Tail.final (Tail.masked (Tail.mine (Tail.ends (m ((c : Thread nD τ).loc main_arg1))) (m ((c : Thread nD τ).loc main_arg1)))
    (Tail.products (xq m c) (Tail.weights (lo m c) (hi m c) (m ((c : Thread nD τ).loc main_arg3))))
    (constant S_ .f32 0x00000000#32)) (xs m c)

theorem tail_val (c : Dev nD) :
    afterTail₀ cfgs (dats m) 0 (V0 m) [hostOps1, hostOps1_1, hostOps1_2, hostOps1_3, hostOps1_4] c main_v36 = val m c := by
  unfold afterTail₀
  refine (Tail.tail_eq _).trans ?_
  have e1 := withArrays_of_ne (cfgs 0).spec c (V0 m c) (fun w => (dats m 0 c).arrAt w (cfgs 0).N) main_arg1 (by decide)
  have e3 := withArrays_of_ne (cfgs 0).spec c (V0 m c) (fun w => (dats m 0 c).arrAt w (cfgs 0).N) main_arg3 (by decide)
  have h0 := (withArrays_arr (cfgs 0).spec winFacts0.arr_inj c (V0 m c) (fun w => (dats m 0 c).arrAt w (cfgs 0).N) 2).trans (arr2 m c)
  have h1 := (withArrays_arr (cfgs 0).spec winFacts0.arr_inj c (V0 m c) (fun w => (dats m 0 c).arrAt w (cfgs 0).N) 3).trans (arr3 m c)
  have h2 := (withArrays_arr (cfgs 0).spec winFacts0.arr_inj c (V0 m c) (fun w => (dats m 0 c).arrAt w (cfgs 0).N) 4).trans (arr4 m c)
  have h3 := (withArrays_arr (cfgs 0).spec winFacts0.arr_inj c (V0 m c) (fun w => (dats m 0 c).arrAt w (cfgs 0).N) 5).trans (arr5 m c)
  unfold val
  congr 1
  congr 1
  congr 1
  congr 1

/-- What the run ends with: the result and the arguments. -/
theorem values : θ_run defs (onTc (τ := τ) (main (F := F))) ⟨m, fun _ => 0, ρ⟩ (fun r => ∀ c : Dev nD,
      r.2.mem ((c.tc : Thread nD τ).loc main_v36) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  have h1 : θ_run defs (onTc (τ := τ) (main (F := F))) ⟨m, fun _ => 0, ρ⟩ (fun r => ∀ c : Dev nD,
      r.2.mem ((c.tc : Thread nD τ).loc main_v36) = val m c) :=
    (θ_run defs _ _).mono (fun _ h c =>
      ((h c).2 main_v36 (Pipeline.mem_restRefs_of main_v36 (by decide) (by decide))).trans (tail_val m c)) (run_main m ρ)
  (θ_run defs _ _).mono (fun _ h c => ⟨h.1 c, h.2 c⟩) (θ_run_and h1 (unchanged m ρ))

end Cert.ReferenceIdeal.Final

end

end
-- ==== Proof.Rows.lean ====
/-
  The quantised rows at an index by the logarithm, and the kernel's exponents, by the search over exponent fields.
-/
module

public import proofs.«01_k».proof.Proof.Quant
public import proofs.«01_k».proof.Proof.RefRun

@[expose] public section

set_option maxRecDepth 16384

noncomputable section

namespace Cert.Rows

open Idealize.ShloMosaic Cert.Quant

/-- The greatest magnitude in a row over 448, as the programs round the quotient's divisor. -/
def quot (row : Fin 3072 → EReal) : EReal :=
  Finset.univ.fold max (Ideal.ofBits .f32 0xFF800000#32) (fun k => max (row k) (-row k)) * Ideal.ofBits .f32 0x3B124925#32

/-- The row's scale. -/
def scale (row : Fin 3072 → EReal) : EReal := Ideal.exp2 (rexp (quot row))

/-- The row's quantised elements. -/
def quant (row : Fin 3072 → EReal) (k : Fin 3072) : EReal :=
  min (Ideal.ofBits .f32 0x43E00000#32)
    (max (Ideal.ofBits .f32 0xC3E00000#32) (row k * Ideal.exp2 (Ideal.ofBits .f32 0#32 - rexp (quot row))))

section
open Cert.KernelIdeal Cert.KernelIdeal.Gen Cert.KernelIdeal.Body
variable (X : Vec Ideal KernelIdeal.S256x3072 .bf16) (a : Fin 256)

theorem kernel_quot : k0_pay6 (F := Ideal) X (ix2 a 0) = quot fun k => X (ix2 a k) := by
  unfold k0_pay6 k0_pay5 quot
  pointwise
  rfl

/-- One step of the search over a whole column, and -/
theorem step_vec {S : Shape} (q : FVec Ideal S .f32) (b : IVec S 32) (s : BitVec 32) :
    select (cmpf .oge q (bitcastToFloat .f32 (shli (addi b (broadcast S s)) (broadcast S 23#32)))) (addi b (broadcast S s)) b
      = fun j => step (q j) s (b j) := rfl

/-- the exponent from the field. -/
theorem exp_vec {S : Shape} (n : IVec S 32) :
    select (cmpi .eq n (broadcast S 0#32)) (broadcast S 0#32) (subi n (broadcast S 126#32))
      = fun j => Scalar.select (IntOp.cmpi .eq (n j) 0#32) 0#32 (n j - 126#32) := rfl

theorem pay7 : k0_pay7 (F := Ideal) X = fun j =>
    step (k0_pay6 (F := Ideal) X j) 32#32 (step (k0_pay6 (F := Ideal) X j) 64#32 (step (k0_pay6 (F := Ideal) X j) 128#32 0#32)) := by
  unfold k0_pay7
  dsimp only
  rw [step_vec, step_vec, step_vec]
  rfl

theorem pay10 (q : FVec Ideal KernelIdeal.S256x1 .f32) (n : IVec KernelIdeal.S256x1 32) :
    k0_pay10 (F := Ideal) q n
        (cmpf .oge q (bitcastToFloat .f32 (shli (addi n (broadcast KernelIdeal.S256x1 16#32)) (broadcast KernelIdeal.S256x1 23#32))))
        (addi n (broadcast KernelIdeal.S256x1 16#32))
      = fun j => Scalar.select (IntOp.cmpi .eq (step (q j) 1#32 (step (q j) 2#32 (step (q j) 4#32 (step (q j) 8#32 (step (q j) 16#32 (n j)))))) 0#32) 0#32
          (step (q j) 1#32 (step (q j) 2#32 (step (q j) 4#32 (step (q j) 8#32 (step (q j) 16#32 (n j))))) - 126#32) := by
  unfold k0_pay10
  dsimp only
  rw [exp_vec, step_vec, step_vec, step_vec, step_vec, step_vec]

theorem expo_eq (j : KernelIdeal.S256x1.Idx) : expo (F := Ideal) X j = kexp (k0_pay6 (F := Ideal) X j) := by
  unfold expo k0_pay8 k0_pay9
  dsimp only
  rw [pay10, pay7]
  rfl

end

end Cert.Rows

end

end
-- ==== Proof.Quantised.lean ====
/-
  The rows the kernel multiplies, and their scales, at an index: functions of the row alone wherever every element of it is
  finite.
-/
module

public import proofs.«01_k».proof.Proof.Rows

@[expose] public section

set_option maxRecDepth 16384

noncomputable section

namespace Cert.Rows

open Idealize.ShloMosaic Cert.Quant

/-! ## The divisor is a number the search handles -/

theorem ofBits_big : ∃ B : ℝ, 0 ≤ B ∧ B < 2 ^ (128 : ℤ) ∧ Ideal.ofBits .f32 0x7F7F0000#32 = (B : EReal) := by
  refine ⟨(2 ^ 23 + 0x7F0000 : ℕ) * 2 ^ ((0xFE : ℤ) - 127 - 23), by positivity, by norm_num, ?_⟩
  show Ideal.ieee 8 23 (0x7F7F0000#32 : BitVec 32) = _
  unfold Ideal.ieee
  dsimp only
  rw [show ((0x7F7F0000#32 : BitVec 32).extractLsb' 23 8).toNat = 0xFE from by decide,
    show ((0x7F7F0000#32 : BitVec 32).extractLsb' 0 23).toNat = 0x7F0000 from by decide,
    show ((0x7F7F0000#32 : BitVec 32).extractLsb' 31 1 == 1#1) = false from by decide]
  norm_num

theorem ofBits_inv : ∃ C : ℝ, 0 ≤ C ∧ C ≤ 2 ^ (-2 : ℤ) ∧ Ideal.ofBits .f32 0x3B124925#32 = (C : EReal) := by
  refine ⟨(2 ^ 23 + 0x124925 : ℕ) * 2 ^ ((0x76 : ℤ) - 127 - 23), by positivity, by norm_num, ?_⟩
  show Ideal.ieee 8 23 (0x3B124925#32 : BitVec 32) = _
  unfold Ideal.ieee
  dsimp only
  rw [show ((0x3B124925#32 : BitVec 32).extractLsb' 23 8).toNat = 0x76 from by decide,
    show ((0x3B124925#32 : BitVec 32).extractLsb' 0 23).toNat = 0x124925 from by decide,
    show ((0x3B124925#32 : BitVec 32).extractLsb' 31 1 == 1#1) = false from by decide]
  norm_num

theorem ofBits_ninf : Ideal.ofBits .f32 0xFF800000#32 = ⊥ := by
  show Ideal.ieee 8 23 (0xFF800000#32 : BitVec 32) = _
  unfold Ideal.ieee
  dsimp only
  rw [show ((0xFF800000#32 : BitVec 32).extractLsb' 23 8).toNat = 2 ^ 8 - 1 from by decide,
    show ((0xFF800000#32 : BitVec 32).extractLsb' 0 23).toNat = 0 from by decide,
    show ((0xFF800000#32 : BitVec 32).extractLsb' 31 1 == 1#1) = true from by decide]
  simp

/-- The elements of the row are finite. -/
def Fin' (row : Fin 3072 → EReal) : Prop := ∀ k, max (row k) (-row k) ≤ Ideal.ofBits .f32 0x7F7F0000#32

theorem quot_real (row : Fin 3072 → EReal) (h : Fin' row) : ∃ r : ℝ, 0 ≤ r ∧ r < 2 ^ (126 : ℤ) ∧ quot row = (r : EReal) := by
  obtain ⟨B, B0, B1, hB⟩ := ofBits_big
  obtain ⟨C, C0, C1, hC⟩ := ofBits_inv
  obtain ⟨M, hM⟩ : ∃ M : EReal, M = Finset.univ.fold max (Ideal.ofBits .f32 0xFF800000#32) (fun k => max (row k) (-row k)) := ⟨_, rfl⟩
  have up : M ≤ (B : EReal) := by
    rw [hM, Finset.fold_max_le, ofBits_ninf, ← hB]
    exact ⟨bot_le, fun k _ => h k⟩
  have dn : ((0 : ℝ) : EReal) ≤ M := by
    rw [hM, Finset.le_fold_max]
    refine .inr ⟨0, Finset.mem_univ _, ?_⟩
    rcases le_total 0 (row 0) with h0 | h0
    · exact le_max_of_le_left h0
    · refine le_max_of_le_right ?_
      rw [EReal.coe_zero, EReal.le_neg, neg_zero]; exact h0
  have e : M = ((M.toReal : ℝ) : EReal) := (EReal.coe_toReal (ne_top_of_le_ne_top (EReal.coe_ne_top B) up)
    (ne_bot_of_le_ne_bot (EReal.coe_ne_bot 0) dn)).symm
  obtain ⟨t, ht⟩ : ∃ t : ℝ, t = M.toReal := ⟨_, rfl⟩
  rw [← ht] at e
  rw [e, EReal.coe_le_coe_iff] at up dn
  refine ⟨t * C, by positivity, ?_, ?_⟩
  · have h1 : t * C ≤ B * 2 ^ (-2 : ℤ) := mul_le_mul up C1 C0 B0
    have h2 : B * 2 ^ (-2 : ℤ) < 2 ^ (128 : ℤ) * 2 ^ (-2 : ℤ) := mul_lt_mul_of_pos_right B1 (by positivity)
    rw [← zpow_add₀ (by norm_num)] at h2
    exact lt_of_le_of_lt h1 h2
  · unfold quot
    rw [← hM, hC, e, EReal.coe_mul]

/-- The two exponents' powers of two. -/
theorem pow_eq (row : Fin 3072 → EReal) (h : Fin' row) :
    fl (kexp (quot row) + 127#32) = scale row ∧ fl (127#32 - kexp (quot row)) = Ideal.exp2 (Ideal.ofBits .f32 0#32 - rexp (quot row)) := by
  obtain ⟨r, r0, r1, hr⟩ := quot_real row h
  unfold scale
  rw [hr]
  exact scale_eq r r0 r1

/-! ## The kernel's rows -/

section
open Cert.KernelIdeal Cert.KernelIdeal.Gen Cert.KernelIdeal.Body

theorem scale_word (e : IVec KernelIdeal.S256x1 32) (a : Fin 256) :
    k0_pay3 (F := Ideal) e k0_pay11 (ix2 a 0) = fl (e (ix2 a 0) + 127#32) := by
  unfold k0_pay3 k0_pay11 fl
  pointwise
  rfl

theorem quant_word (Y : FVec Ideal KernelIdeal.S256x3072 .f32) (e : IVec KernelIdeal.S256x1 32) (a : Fin 256) (k : Fin 3072) :
    k0_pay2 (F := Ideal) Y e (ix2 a k)
      = min (Ideal.ofBits .f32 0x43E00000#32) (max (Ideal.ofBits .f32 0xC3E00000#32) (Y (ix2 a k) * fl (127#32 - e (ix2 a 0)))) := by
  unfold k0_pay2 fl
  pointwise
  rfl

variable (X : Vec Ideal KernelIdeal.S256x3072 .bf16) (a : Fin 256) (h : Fin' fun k => X (ix2 a k))
include h

theorem qs_eq : qs (F := Ideal) X (ix2 a 0) = scale fun k => X (ix2 a k) := by
  rw [← (pow_eq _ h).1, ← kernel_quot, ← expo_eq, qs, scale_word]

theorem qx_eq (k : Fin 3072) : qx (F := Ideal) X (ix2 a k) = quant (fun k => X (ix2 a k)) k := by
  rw [quant, ← (pow_eq _ h).2, ← kernel_quot, ← expo_eq, qx, quant_word, k0_pay5]
  pointwise

end

end Cert.Rows

end

end
-- ==== Proof.Weights.lean ====
/-
  The unpacked weights of an expert, as the kernel and as the reference make them: a 4-bit field of the packed byte, as a
  signed integer, times its group's scale.
-/
module

public import proofs.«01_k».proof.Proof.Body
public import proofs.«01_k».proof.Proof.RefTail
public import Idealize.ShloMosaic.Lib.Pointwise
public import Idealize.ShloMosaic.Lib.Pointwise.IndexBridge

@[expose] public section

set_option maxRecDepth 16384

noncomputable section

namespace Cert.Weights

open Idealize.ShloMosaic

/-- The low field of a packed byte, as a word, and -/
def lowWord (b : BitVec 8) : BitVec 32 := IntOp.shrsi .vector (IntOp.shli .vector (BitVec.setWidth 32 b) 28#32) 28#32
/-- the high one. -/
def highWord (b : BitVec 8) : BitVec 32 := IntOp.shrsi .vector (IntOp.shli .vector (BitVec.setWidth 32 b) 24#32) 28#32

/-- The field of a packed byte that row `k` of the weights reads, as a number. -/
def field (k : ℕ) (b : BitVec 8) : Ideal .bf16 :=
  if k % 2 < 1 then FloatOps.sitofp (F := Ideal) .bf16 (lowWord b) else FloatOps.sitofp (F := Ideal) .bf16 (highWord b)

/-- The weight in row `k` and column `n` of expert `e`. -/
def weight (q : Vec Ideal Cert.KernelIdeal.S16x1536x1408 .i8) (s : Vec Ideal Cert.KernelIdeal.S16x24x1408 .f32) (e : Fin 16) (k : Fin 3072) (n : Fin 1408) : EReal :=
  field k.val (q (ix3 e ⟨k.val / 2, by omega⟩ n)) * s (ix3 e ⟨k.val / 128, by omega⟩ n)

/-- Equal integers are equal numbers in every format. -/
theorem sitofp_eq {a b : FTy} {p q : ℕ} (v : BitVec p) (w : BitVec q) (h : v.toInt = w.toInt) :
    (FloatOps.sitofp (F := Ideal) a v : EReal) = FloatOps.sitofp (F := Ideal) b w := by
  show (((v.toInt : ℝ)) : EReal) = ((w.toInt : ℝ) : EReal)
  rw [h]

/-- Both ways of taking the sign of the low field agree, -/
theorem low_word : ∀ b : BitVec 8, (BitVec.setWidth 8 (IntOp.subi (IntOp.andi (BitVec.setWidth 32 b) 15#32)
      (IntOp.shli .vector (IntOp.andi (IntOp.andi (BitVec.setWidth 32 b) 15#32) 8#32) 1#32))).toInt = (lowWord b).toInt := by
  decide +kernel

/-- and of the high one. -/
theorem high_word : ∀ b : BitVec 8, (BitVec.setWidth 8 (IntOp.subi (IntOp.andi (IntOp.shrsi .vector (BitVec.setWidth 32 b) 4#32) 15#32)
      (IntOp.shli .vector (IntOp.andi (IntOp.andi (IntOp.shrsi .vector (BitVec.setWidth 32 b) 4#32) 15#32) 8#32) 1#32))).toInt = (highWord b).toInt := by
  decide +kernel

section Kernel
open Cert.KernelIdeal Cert.KernelIdeal.Gen Cert.KernelIdeal.Body

theorem pay1_at (V : Vec Ideal S1x64x1408 .i8) (U : Vec Ideal S1x1x1408 .f32) (r : Fin 128) (b : Fin 1408) :
    k0_pay1 (F := Ideal) V U (ix2 r b) = field r.val (V (ix3 0 ⟨r.val / 2, by omega⟩ b)) * U (ix3 0 0 b) := by
  have h : k0_pay1 (F := Ideal) V U (ix2 r b) = FloatOps.sitofp (F := Ideal) FTy.bf16
        (if h : r.val % 2 < 1 then
          IntOp.shrsi ArithUnit.vector
            (IntOp.shli ArithUnit.vector (BitVec.setWidth 32 (V (ix3 0 ⟨r.val / 2, by omega⟩ b))) 28#32) 28#32
        else
          IntOp.shrsi ArithUnit.vector
            (IntOp.shli ArithUnit.vector (BitVec.setWidth 32 (V (ix3 0 ⟨r.val / 2, by omega⟩ b))) 24#32) 28#32) *
      U (ix3 0 0 b) := by
    unfold k0_pay1
    pointwise
  rw [h]
  unfold field
  by_cases hr : r.val % 2 < 1
  · rw [dif_pos hr, if_pos hr]; rfl
  · rw [dif_neg hr, if_neg hr]; rfl

/-- A group's packed rows in the expert's, and -/
theorem ld_rows (W : Vec Ideal S1x1536x1408 .i8) (k : Fin k0_t1_loop.trips) (p : Fin 64) (b : Fin 1408) (hk : 64 * k.val + p.val < 1536) :
    View.ld W (Rect.unit (s := S1x1536x1408) (k0_off3 k) S1x64x1408.size (k0_off3_inb k)) (ix3 0 p b) = W (ix3 0 ⟨64 * k.val + p.val, hk⟩ b) := by
  refine congrArg W (funext fun a => Fin.ext ?_)
  show (k0_off3 k) a + 1 * (ix3 (0 : Fin 1) p b a).val = _
  rw [k0_off3_eq]
  fin_cases a <;> simp [ix3]

/-- its scales in the expert's. -/
theorem ld_scales (S : Vec Ideal S1x24x1408 .f32) (k : Fin k0_t1_loop.trips) (b : Fin 1408) (hk : k.val < 24) :
    View.ld S (Rect.unit (s := S1x24x1408) (k0_off4 k) S1x1x1408.size (k0_off4_inb k)) (ix3 0 0 b) = S (ix3 0 ⟨k.val, hk⟩ b) := by
  refine congrArg S (funext fun a => Fin.ext ?_)
  show (k0_off4 k) a + 1 * (ix3 (0 : Fin 1) (0 : Fin 1) b a).val = _
  rw [k0_off4_eq]
  fin_cases a <;> simp [ix3]

/-- The kernel's unpacked weights. -/
theorem deq_eq (W : Vec Ideal S1x1536x1408 .i8) (S : Vec Ideal S1x24x1408 .f32) (y : Fin 3072) (n : Fin 1408) :
    deq (F := Ideal) W S (ix2 y n) = field y.val (W (ix3 0 ⟨y.val / 2, by omega⟩ n)) * S (ix3 0 ⟨y.val / 128, by omega⟩ n) := by
  have hy := y.isLt
  rw [deq_at (F := Ideal) W S ⟨y.val / 128, by rw [trips_eq]; omega⟩ ⟨y.val % 128, Nat.mod_lt _ (by decide)⟩ n (ix2 y n)
    (by show y.val = 128 * (y.val / 128) + y.val % 128; omega) rfl]
  unfold deqAt
  rw [← ix2_eq_valueIdx, pay1_at, ld_rows _ _ _ _ (by show 64 * (y.val / 128) + y.val % 128 / 2 < 1536; omega), ld_scales _ _ _ (by show y.val / 128 < 24; omega)]
  have e1 : 64 * (y.val / 128) + y.val % 128 / 2 = y.val / 2 := by omega
  have e2 : y.val % 128 % 2 = y.val % 2 := by omega
  unfold field
  simp only [e1, e2]

end Kernel

section Reference
open Cert.ReferenceIdeal Cert.ReferenceIdeal.Gen

theorem lo_at (x : Vec Ideal S16x1536x1408 .i8) (e : Fin 16) (y : Fin 1536) (n : Fin 1408) :
    k0_pay1 (F := Ideal) (k0_pay8 (F := Ideal) x) (ix3 e y n) = FloatOps.sitofp (F := Ideal) .bf16 (lowWord (x (ix3 e y n))) := by
  refine Eq.trans ?_ (sitofp_eq (a := .fp8e4m3) _ _ (low_word (x (ix3 e y n))))
  unfold k0_pay1 k0_pay8 k0_pay7
  pointwise

theorem hi_at (x : Vec Ideal S16x1536x1408 .i8) (e : Fin 16) (y : Fin 1536) (n : Fin 1408) :
    k0_pay2 (F := Ideal) (k0_pay9 (F := Ideal) x) (ix3 e y n) = FloatOps.sitofp (F := Ideal) .bf16 (highWord (x (ix3 e y n))) := by
  refine Eq.trans ?_ (sitofp_eq (a := .fp8e4m3) _ _ (high_word (x (ix3 e y n))))
  unfold k0_pay2 k0_pay9 k0_pay7
  pointwise

theorem scaled_at (f : FVec Ideal S16x1536x1408 .bf16) (s : FVec Ideal S16x24x1408 .f32) (e : Fin 16) (y : Fin 1536) (n : Fin 1408) :
    Tail.scaled (F := Ideal) f s (ix3 e y n) = f (ix3 e y n) * s (ix3 e ⟨y.val / 64, by omega⟩ n) := by
  unfold Tail.scaled
  pointwise

theorem turn_at (A B : FVec Ideal S16x1536x1408 .bf16) (e : Fin 16) (y : Fin 3072) (n : Fin 1408) :
   (shapeCast S16x3072x1408
    (concatenate S16x1536x2x1408 2
      [⟨S16x1536x1x1408, broadcastInDim S16x1536x1x1408 ![0, 1, 3] Facts₀.bcast_S16x1536x1408_S16x1536x1x1408_0_1_3 A⟩,
       ⟨S16x1536x1x1408, broadcastInDim S16x1536x1x1408 ![0, 1, 3] Facts₀.bcast_S16x1536x1408_S16x1536x1x1408_0_1_3 B⟩]
      Facts₀.concatenates_S16x1536x1x1408_S16x1536x1x1408_S16x1536x2x1408_d2)
    Facts₀.shapeCasts_S16x1536x2x1408_S16x3072x1408) (ix3 e y n)
      = if h : y.val % 2 < 1 then A (ix3 e ⟨y.val / 2, by omega⟩ n) else B (ix3 e ⟨y.val / 2, by omega⟩ n) := by
  pointwise

/-- The reference's unpacked weights. -/
theorem weights_eq (q : Vec Ideal S16x1536x1408 .i8) (s : Vec Ideal S16x24x1408 .f32) (e : Fin 16) (y : Fin 3072) (n : Fin 1408) :
    Tail.weights (F := Ideal) (k0_pay1 (F := Ideal) (k0_pay8 (F := Ideal) q)) (k0_pay2 (F := Ideal) (k0_pay9 (F := Ideal) q)) s (ix3 e y n)
      = weight q s e y n := by
  unfold Tail.weights
  rw [turn_at]
  have e1 : y.val / 2 / 64 = y.val / 128 := by omega
  unfold weight field
  by_cases hr : y.val % 2 < 1
  · rw [dif_pos hr, if_pos hr, scaled_at, lo_at]
    simp only [e1]
  · rw [dif_neg hr, if_neg hr, scaled_at, hi_at]
    simp only [e1]

end Reference

end Cert.Weights

end

end
-- ==== Proof.Tiny.lean ====
/-
  The reference takes the exponent 0 only where the row's greatest magnitude is 0, the kernel wherever the quotient lies
  below the normal numbers. On the rows between, the codes differ by a power of two and the scales by its inverse, no code
  is clipped, and the products are the same numbers.
-/
module

public import proofs.«01_k».proof.Proof.Quantised

@[expose] public section

set_option maxRecDepth 16384

noncomputable section

namespace Cert.Rows

open Idealize.ShloMosaic Cert.Quant

/-- The greatest magnitude in a row. -/
def amax (row : Fin 3072 → EReal) : EReal :=
  Finset.univ.fold max (Ideal.ofBits .f32 0xFF800000#32) (fun k => max (row k) (-row k))

/-- The exponent by the logarithm. -/
def lexp (q : EReal) : EReal :=
  Ideal.liftRound Int.floor (Ideal.div (Ideal.log q) (Ideal.log (Ideal.ofBits .f32 0x40000000#32))) + Ideal.ofBits .f32 0x3F800000#32

/-- The reference's exponent of a row, -/
def refExp (row : Fin 3072 → EReal) : EReal :=
  Scalar.select (Ideal.cmp .oeq (amax row) (Ideal.ofBits .f32 0#32)) (Ideal.ofBits .f32 0#32) (lexp (quot row))

/-- its scale, -/
def refScale (row : Fin 3072 → EReal) : EReal := Ideal.exp2 (refExp row)

/-- and its quantised elements. -/
def refQuant (row : Fin 3072 → EReal) (k : Fin 3072) : EReal :=
  min (Ideal.ofBits .f32 0x43E00000#32)
    (max (Ideal.ofBits .f32 0xC3E00000#32) (row k * Ideal.exp2 (Ideal.ofBits .f32 0#32 - refExp row)))

theorem quot_amax (row : Fin 3072 → EReal) : quot row = amax row * Ideal.ofBits .f32 0x3B124925#32 := rfl

theorem rexp_lexp (q : EReal) :
    rexp q = Scalar.select (Ideal.cmp .olt q (Ideal.ofBits .f32 0x00800000#32)) (Ideal.ofBits .f32 0#32) (lexp q) := rfl

theorem ofBits_max : Ideal.ofBits .f32 0x43E00000#32 = ((448 : ℝ) : EReal) := by
  show Ideal.ieee 8 23 (0x43E00000#32 : BitVec 32) = _
  unfold Ideal.ieee
  dsimp only
  rw [show ((0x43E00000#32 : BitVec 32).extractLsb' 23 8).toNat = 0x87 from by decide,
    show ((0x43E00000#32 : BitVec 32).extractLsb' 0 23).toNat = 0x600000 from by decide,
    show ((0x43E00000#32 : BitVec 32).extractLsb' 31 1 == 1#1) = false from by decide]
  norm_num

theorem ofBits_min : Ideal.ofBits .f32 0xC3E00000#32 = ((-448 : ℝ) : EReal) := by
  show Ideal.ieee 8 23 (0xC3E00000#32 : BitVec 32) = _
  unfold Ideal.ieee
  dsimp only
  rw [show ((0xC3E00000#32 : BitVec 32).extractLsb' 23 8).toNat = 0x87 from by decide,
    show ((0xC3E00000#32 : BitVec 32).extractLsb' 0 23).toNat = 0x600000 from by decide,
    show ((0xC3E00000#32 : BitVec 32).extractLsb' 31 1 == 1#1) = true from by decide]
  norm_num

/-- The factor in place of `1 / 448` is no less than it. -/
theorem ofBits_factor : ∃ C : ℝ, 1 ≤ 448 * C ∧ Ideal.ofBits .f32 0x3B124925#32 = (C : EReal) := by
  refine ⟨(2 ^ 23 + 0x124925 : ℕ) * 2 ^ ((0x76 : ℤ) - 127 - 23), by norm_num, ?_⟩
  show Ideal.ieee 8 23 (0x3B124925#32 : BitVec 32) = _
  unfold Ideal.ieee
  dsimp only
  rw [show ((0x3B124925#32 : BitVec 32).extractLsb' 23 8).toNat = 0x76 from by decide,
    show ((0x3B124925#32 : BitVec 32).extractLsb' 0 23).toNat = 0x124925 from by decide,
    show ((0x3B124925#32 : BitVec 32).extractLsb' 31 1 == 1#1) = false from by decide]
  norm_num

/-- The exponent by the logarithm is an integer whose power of two exceeds the number. -/
theorem lexp_real (r : ℝ) (hr : 0 < r) : ∃ e : ℝ, lexp r = (e : EReal) ∧ r < (2 : ℝ) ^ e := by
  have p2 : 0 < Real.log 2 := Real.log_pos (by norm_num)
  refine ⟨(⌊Real.log r * (Real.log 2)⁻¹⌋ : ℝ) + 1, ?_, ?_⟩
  · unfold lexp
    rw [ofBits_two, Ideal.log_coe, Ideal.log_coe, if_neg (not_le.mpr hr), if_neg (by norm_num)]
    have l : Ideal.div (Real.log r : EReal) (Real.log 2 : EReal) = ((Real.log r * (Real.log 2)⁻¹ : ℝ) : EReal) := by
      unfold Ideal.div
      rw [if_neg (by rw [← EReal.coe_zero, EReal.coe_eq_coe_iff]; exact p2.ne'), EReal.coe_mul, EReal.coe_inv]
    rw [l, Ideal.liftRound_coe, Ideal.ofBits_one_f32, EReal.coe_add]
    rfl
  · rw [← Real.log_lt_log_iff hr (by positivity), Real.log_rpow (by norm_num), ← div_lt_iff₀ p2, div_eq_mul_inv]
    exact Int.lt_floor_add_one _

/-- A common non-negative factor of the terms is a factor of the sum, whatever the other factors. -/
theorem sum_factor (c : ℝ) (hc : 0 ≤ c) (t : Fin 3072 → ℝ) (w : Fin 3072 → EReal) :
    ∑ k, ((t k * c : ℝ) : EReal) * w k = (c : EReal) * ∑ k, (t k : EReal) * w k := by
  have step : ∀ s : Finset (Fin 3072), ∑ k ∈ s, ((t k * c : ℝ) : EReal) * w k = (c : EReal) * ∑ k ∈ s, (t k : EReal) * w k := by
    intro s
    induction s using Finset.induction_on with
    | empty => rw [Finset.sum_empty, Finset.sum_empty, mul_zero]
    | insert a s ha ih =>
      rw [Finset.sum_insert ha, Finset.sum_insert ha, ih,
        EReal.left_distrib_of_nonneg_of_ne_top (EReal.coe_nonneg.mpr hc) (EReal.coe_ne_top c), mul_comm (t a), EReal.coe_mul, mul_assoc]
  exact step _

/-- An element no greater than 448 in magnitude is not clipped. -/
theorem clip_eq (y : ℝ) (h : |y| ≤ 448) : min (Ideal.ofBits .f32 0x43E00000#32) (max (Ideal.ofBits .f32 0xC3E00000#32) (y : EReal)) = (y : EReal) := by
  rw [ofBits_max, ofBits_min, max_eq_right (EReal.coe_le_coe_iff.mpr (abs_le.mp h).1), min_eq_right (EReal.coe_le_coe_iff.mpr (abs_le.mp h).2)]

/-- The product of a row, by the kernel's exponent and by the reference's. -/
theorem product_eq (row : Fin 3072 → EReal) (h : Fin' row) (w : Fin 3072 → EReal) :
    (∑ k, refQuant row k * w k) * refScale row = (∑ k, quant row k * w k) * scale row := by
  have z : Ideal.ofBits .f32 0#32 = ((0 : ℝ) : EReal) := by rw [Ideal.ofBits_zero_f32]; rfl
  have same : refExp row = rexp (quot row) → (∑ k, refQuant row k * w k) * refScale row = (∑ k, quant row k * w k) * scale row := by
    intro e
    unfold refQuant refScale quant scale
    rw [e]
  obtain ⟨r, r0, -, hr⟩ := quot_real row h
  obtain ⟨C, hC, hC'⟩ := ofBits_factor
  have C0 : 0 < C := by linarith
  by_cases ha : amax row = ((0 : ℝ) : EReal)
  · apply same
    have q0 : quot row = ((0 : ℝ) : EReal) := by rw [quot_amax, ha, EReal.coe_zero, zero_mul]
    unfold refExp Scalar.select
    rw [rexp_lexp, if_pos (by rw [Ideal.cmp_oeq_eq_one, z]; exact ha), Scalar.select,
      if_pos (by rw [Ideal.cmp_olt_eq_one, ofBits_tiny, q0, EReal.coe_lt_coe_iff]; positivity)]
  have e1 : refExp row = lexp r := by
    unfold refExp Scalar.select
    rw [if_neg (by rw [Ideal.cmp_oeq_eq_one, z]; exact ha), hr]
  by_cases ht : r < 2 ^ (-126 : ℤ)
  · have e2 : rexp (quot row) = ((0 : ℝ) : EReal) := by
      rw [rexp_lexp, Scalar.select, if_pos (by rw [Ideal.cmp_olt_eq_one, ofBits_tiny, hr, EReal.coe_lt_coe_iff]; exact ht), z]
    -- the row's elements are real numbers
    obtain ⟨B, -, -, hB⟩ := ofBits_big
    have reals : ∀ k, ∃ t : ℝ, row k = (t : EReal) := fun k => by
      have u := h k
      rw [hB] at u
      refine ⟨(row k).toReal, (EReal.coe_toReal ?_ ?_).symm⟩
      · exact ne_top_of_le_ne_top (EReal.coe_ne_top B) (le_trans (le_max_left _ _) u)
      · intro hb
        rw [hb] at u
        exact absurd (le_trans (le_max_right _ _) u) (by simp)
    choose t ht' using reals
    -- none greater than 448 times the quotient
    have le : ∀ k, |t k| ≤ 448 * r := fun k => by
      have m : ((|t k| : ℝ) : EReal) ≤ amax row := by
        unfold amax
        rw [Finset.le_fold_max]
        refine .inr ⟨k, Finset.mem_univ _, ?_⟩
        rw [ht' k, ← EReal.coe_neg, le_max_iff, EReal.coe_le_coe_iff, EReal.coe_le_coe_iff, ← le_max_iff]
        exact le_rfl
      have m2 : ((|t k| : ℝ) : EReal) * (C : EReal) ≤ (r : EReal) := by
        rw [← hr, quot_amax, hC']
        exact mul_le_mul_of_nonneg_right m (EReal.coe_nonneg.mpr C0.le)
      rw [← EReal.coe_mul, EReal.coe_le_coe_iff] at m2
      nlinarith [abs_nonneg (t k)]
    have rpos : 0 < r := by
      rcases r0.lt_or_eq with h' | h'
      · exact h'
      · exfalso
        apply ha
        have : amax row * (C : EReal) = 0 := by rw [← hC', ← quot_amax, hr, ← h']; rfl
        rcases mul_eq_zero.mp this with h'' | h''
        · rw [h'']; rfl
        · exact absurd (EReal.coe_eq_zero.mp h'') C0.ne'
    obtain ⟨e, he, hlt⟩ := lexp_real r rpos
    have pe : (0 : ℝ) < 2 ^ e := by positivity
    have inv : (2 : ℝ) ^ (0 - e) = (2 ^ e)⁻¹ := by rw [zero_sub, Real.rpow_neg (by norm_num)]
    have q1 : ∀ k, refQuant row k = ((t k * (2 : ℝ) ^ (0 - e) : ℝ) : EReal) := fun k => by
      unfold refQuant
      rw [e1, he, z, ← EReal.coe_sub, Ideal.exp2_coe, ht' k]
      have := clip_eq (t k * (2 : ℝ) ^ (0 - e)) (by
        rw [inv, abs_mul, abs_of_pos (inv_pos.mpr pe), ← div_eq_mul_inv, div_le_iff₀ pe]
        linarith [le k])
      rw [EReal.coe_mul] at this
      rw [EReal.coe_mul]
      exact this
    have q2 : ∀ k, quant row k = ((t k * 1 : ℝ) : EReal) := fun k => by
      unfold quant
      rw [e2, z, ← EReal.coe_sub, Ideal.exp2_coe, ht' k]
      have := clip_eq (t k * 1) (by
        have : (2 : ℝ) ^ (-126 : ℤ) ≤ 1 := by norm_num
        rw [mul_one]
        linarith [le k])
      rw [EReal.coe_mul] at this
      rw [EReal.coe_mul]
      refine Eq.trans ?_ this
      rw [show (1 : ℝ) = (2 : ℝ) ^ ((0 : ℝ) - 0) by norm_num]
      rfl
    have s1 : refScale row = (((2 : ℝ) ^ e : ℝ) : EReal) := by unfold refScale; rw [e1, he, Ideal.exp2_coe]; rfl
    have s2 : scale row = ((1 : ℝ) : EReal) := by
      unfold scale
      rw [e2, Ideal.exp2_coe]
      refine congrArg _ ?_
      show (2 : ℝ) ^ (0 : ℝ) = 1
      norm_num
    simp only [q1, q2, s1, s2]
    rw [sum_factor _ (by positivity), sum_factor _ (by norm_num), mul_comm, ← mul_assoc, ← EReal.coe_mul, inv, mul_inv_cancel₀ pe.ne',
      EReal.coe_one, mul_one]
  · apply same
    rw [e1, rexp_lexp, Scalar.select, if_neg (by rw [Ideal.cmp_olt_eq_one, ofBits_tiny, hr, EReal.coe_lt_coe_iff]; exact ht), hr]

end Cert.Rows

end

end
-- ==== Proof.QuantisedRef.lean ====
/-
  The rows the reference multiplies, and their scales, at an index.
-/
module

public import proofs.«01_k».proof.Proof.Tiny

@[expose] public section

set_option maxRecDepth 16384

noncomputable section

namespace Cert.Rows

open Idealize.ShloMosaic Cert.Quant

section
open Cert.ReferenceIdeal Cert.ReferenceIdeal.Gen

theorem exp_ref {S : Shape} (a q : FVec Ideal S .f32) :
    select (cmpf .oeq a (broadcast S (Scalar.ofBits .f32 0x00000000#32))) (broadcast S (Scalar.ofBits .f32 0x00000000#32))
      (addf (floor (divf (log q) (log (broadcast S (Scalar.ofBits .f32 0x40000000#32))))) (broadcast S (Scalar.ofBits .f32 0x3F800000#32)))
      = fun j => Scalar.select (Ideal.cmp .oeq (a j) (Ideal.ofBits .f32 0#32)) (Ideal.ofBits .f32 0#32) (lexp (q j)) := rfl

theorem col (v : FVec Ideal ReferenceIdeal.S4096 .f32) (R : Fin 4096) :
    shapeCast ReferenceIdeal.S4096x1 v shapeCasts_S4096_S4096x1 (ix2 R 0) = v (ix1 R) := by
  pointwise

theorem row_max (X : FVec Ideal ReferenceIdeal.S4096x3072 .f32) (R : Fin 4096) :
    multiReduction .maximumf [1] ReferenceIdeal.S4096 X 0xFF800000#32 reduces_S4096x3072_S4096 (.inl rfl) rfl (ix1 R)
      = Finset.univ.fold max (Ideal.ofBits .f32 0xFF800000#32) (fun k : Fin 3072 => X (ix2 R k)) := by
  pointwise

theorem mul_at {S : Shape} (A : FVec Ideal S .f32) (c : BitVec 32) (j : S.Idx) :
    mulf A (broadcast S (Scalar.ofBits .f32 c)) j = A j * Ideal.ofBits .f32 c := rfl

theorem abs_at {S : Shape} (A : FVec Ideal S .f32) (j : S.Idx) : absf A j = max (A j) (-A j) := rfl

theorem ref_amax (X : FVec Ideal ReferenceIdeal.S4096x3072 .f32) (R : Fin 4096) :
    shapeCast ReferenceIdeal.S4096x1
      (multiReduction .maximumf [1] ReferenceIdeal.S4096 (absf X) 0xFF800000#32 reduces_S4096x3072_S4096 (.inl rfl) rfl)
      shapeCasts_S4096_S4096x1 (ix2 R 0) = amax fun k => X (ix2 R k) := by
  rw [col, row_max]
  simp only [abs_at]
  unfold amax
  with_reducible rfl

theorem exp2_vec {S : Shape} (e : FVec Ideal S .f32) : exp2 e = fun j => Ideal.exp2 (e j) := rfl

variable (X : Vec Ideal ReferenceIdeal.S4096x3072 .bf16) (R : Fin 4096)

theorem ref_exp : ReferenceIdeal.Gen.k0_pay4 (F := Ideal) X (ix2 R 0) = refExp fun k => X (ix2 R k) := by
  unfold ReferenceIdeal.Gen.k0_pay4
  dsimp only
  rw [exp_ref]
  dsimp only
  rw [mul_at, ref_amax]
  rfl

theorem xs_eq : ReferenceIdeal.Gen.k0_pay6 (F := Ideal) X (ix2 R 0) = refScale fun k => X (ix2 R k) := by
  rw [refScale, ← ref_exp, ReferenceIdeal.Gen.k0_pay6, exp2_vec]

theorem quant_pow (Y : FVec Ideal ReferenceIdeal.S4096x3072 .f32) (e : FVec Ideal ReferenceIdeal.S4096x1 .f32) (k : Fin 3072) :
    minimumf (broadcast ReferenceIdeal.S4096x3072 (Scalar.ofBits .f32 0x43E00000#32)) (maximumf (broadcast ReferenceIdeal.S4096x3072 (Scalar.ofBits .f32 0xC3E00000#32))
      (mulf Y (broadcastTo ReferenceIdeal.S4096x3072 (exp2 (subf (broadcast ReferenceIdeal.S4096x1 (Scalar.ofBits .f32 0x00000000#32)) e))
        broadcasts_S4096x1_S4096x3072))) (ix2 R k)
      = min (Ideal.ofBits .f32 0x43E00000#32)
        (max (Ideal.ofBits .f32 0xC3E00000#32) (Y (ix2 R k) * Ideal.exp2 (Ideal.ofBits .f32 0#32 - e (ix2 R 0)))) := by
  pointwise
  rfl

theorem xq_eq (k : Fin 3072) : ReferenceIdeal.Gen.k0_pay5 (F := Ideal) X (ix2 R k) = refQuant (fun k => X (ix2 R k)) k := by
  rw [refQuant, ← ref_exp]
  exact quant_pow R (ReferenceIdeal.Gen.k0_pay3 (F := Ideal) X) (ReferenceIdeal.Gen.k0_pay4 (F := Ideal) X) k

end

end Cert.Rows

end

end
-- ==== Proof.Owner.lean ====
/-
  The element of the product in one row, one expert and one column, and the reference's result as such elements: every
  row has one owner, and the sum over the experts keeps the owner's product alone.
-/
module

public import proofs.«01_k».proof.Proof.Weights
public import proofs.«01_k».proof.Proof.QuantisedRef
public import proofs.«01_k».proof.Proof.RefRun
public import proofs.«01_k».proof.Proof.Tables

@[expose] public section

set_option maxRecDepth 16384

noncomputable section

namespace Cert.Owner

open Idealize.ShloMosaic Idealize.ShloMosaic.Routing
open Cert.Visits Cert.Weights Cert.Rows

/-- Row `R` of the activations, -/
abbrev row (x : Vec Ideal Cert.KernelIdeal.S4096x3072 .bf16) (R : Fin 4096) : Fin 3072 → EReal := fun k => x (ix2 R k)

/-- its quantised product with column `n` of expert `e`'s weights, scaled back. -/
def cell (x : Vec Ideal Cert.KernelIdeal.S4096x3072 .bf16) (q : Vec Ideal Cert.KernelIdeal.S16x1536x1408 .i8)
    (s : Vec Ideal Cert.KernelIdeal.S16x24x1408 .f32) (R : Fin 4096) (e : Fin 16) (n : Fin 1408) : EReal :=
  (∑ k : Fin 3072, quant (row x R) k * weight q s e k n) * scale (row x R)

/-- Both comparisons of a row with an expert's first and one past its last, as one word. -/
theorem between {a b d : ℕ} (ha : a < 2 ^ 31) (hb : b < 2 ^ 31) (hd : d < 2 ^ 31) :
    IntOp.andi (IntOp.cmpi .sge (BitVec.ofNat 32 a) (BitVec.ofNat 32 b)) (IntOp.cmpi .slt (BitVec.ofNat 32 a) (BitVec.ofNat 32 d))
      = if b ≤ a ∧ a < d then 1#1 else 0#1 := by
  show BitVec.ofBool ((BitVec.ofNat 32 b).sle (BitVec.ofNat 32 a)) &&& BitVec.ofBool ((BitVec.ofNat 32 a).slt (BitVec.ofNat 32 d)) = _
  rw [slt_ofNat32 ha hd, sle_ofNat32 hb ha]
  by_cases h1 : b ≤ a <;> by_cases h2 : a < d <;> simp [h1, h2]

section Reference
open Cert.ReferenceIdeal Cert.ReferenceIdeal.Gen

theorem mine_at (g d : IVec S16 32) (R : Fin 4096) (e : Fin 16) :
    Tail.mine d g (ix3 R e 0) = IntOp.andi (IntOp.cmpi .sge (BitVec.ofNat 32 R.val) (IntOp.subi (d (ix1 e)) (g (ix1 e))))
      (IntOp.cmpi .slt (BitVec.ofNat 32 R.val) (d (ix1 e))) := by
  unfold Tail.mine
  pointwise

theorem masked_word (k : IVec S4096x16x1 1) (p : FVec Ideal S4096x16x1408 .f32) (z : FVec Ideal S_ .f32) (R : Fin 4096) (e : Fin 16) (n : Fin 1408) :
    Tail.masked k p z (ix3 R e n) = Scalar.select (k (ix3 R e 0)) (p (ix3 R e n)) (z ix0) := by
  unfold Tail.masked
  pointwise
  rfl

theorem zero_at : (constant S_ .f32 0x00000000#32 : FVec Ideal S_ .f32) ix0 = (0 : EReal) := by
  pointwise

theorem masked_at (k : IVec S4096x16x1 1) (p : FVec Ideal S4096x16x1408 .f32) (R : Fin 4096) (e : Fin 16) (n : Fin 1408) :
    Tail.masked k p (constant S_ .f32 0x00000000#32) (ix3 R e n) = Scalar.select (k (ix3 R e 0)) (p (ix3 R e n)) (0 : EReal) := by
  rw [masked_word, zero_at]

theorem final_at (p : FVec Ideal S4096x16x1408 .f32) (s : FVec Ideal S4096x1 .f32) (R : Fin 4096) (n : Fin 1408) :
    Tail.final p s (ix2 R n) = (∑ e : Fin 16, p (ix3 R e n)) * s (ix2 R 0) := by
  unfold Tail.final
  pointwise

theorem products_at (x : FVec Ideal S4096x3072 .bf16) (w : FVec Ideal S16x3072x1408 .bf16) (R : Fin 4096) (e : Fin 16) (n : Fin 1408) :
    Tail.products (F := Ideal) x w (ix3 R e n) = ∑ k : Fin 3072, x (ix2 R k) * w (ix3 e k n) := by
  unfold Tail.products
  pointwise

/-- The words of the experts' last rows. -/
theorem ends_at {g : IVec S16 32} {s : ℕ → ℕ} (hg : ∀ i : Fin 16, g (ix1 i) = BitVec.ofNat 32 (s i.val)) (e : Fin 16) :
    Tail.ends g (ix1 e) = BitVec.ofNat 32 (pre s (e.val + 1)) := by
  have h := Tables.ends_ap (g := g) (s := s) (fun i => by rw [← ix1_eq_valueIdx]; exact hg i) e
  rw [← ix1_eq_valueIdx] at h
  exact h

/-- Which expert a row is. -/
theorem mine_eq {g : IVec S16 32} {s : ℕ → ℕ} (hg : ∀ i : Fin 16, g (ix1 i) = BitVec.ofNat 32 (s i.val)) (hs : pre s 16 = 4096) (R : Fin 4096) (e : Fin 16) :
    Tail.mine (Tail.ends g) g (ix3 R e 0) = if pre s e.val ≤ R.val ∧ R.val < pre s (e.val + 1) then 1#1 else 0#1 := by
  have h1 := pre_le hs (n := e.val + 1) (by omega)
  have h2 := pre_succ s e.val
  rw [mine_at, ends_at hg, hg]
  have e1 : IntOp.subi (BitVec.ofNat 32 (pre s (e.val + 1))) (BitVec.ofNat 32 (s e.val)) = BitVec.ofNat 32 (pre s e.val) := by
    show BitVec.ofNat 32 (pre s (e.val + 1)) - BitVec.ofNat 32 (s e.val) = _
    rw [Tables.ofNat_sub_ofNat (by omega), h2, Nat.add_sub_cancel]
  rw [e1]
  exact between (by omega) (by omega) (by omega)

/-- The sum over the experts is the owner's product. -/
theorem sum_owner {g : IVec S16 32} {s : ℕ → ℕ} (hg : ∀ i : Fin 16, g (ix1 i) = BitVec.ofNat 32 (s i.val)) (hs : pre s 16 = 4096) (R : Fin 4096) (e : Fin 16)
    (h1 : pre s e.val ≤ R.val) (h2 : R.val < pre s (e.val + 1)) (p : FVec Ideal S4096x16x1408 .f32) (n : Fin 1408) :
    (∑ d : Fin 16, Tail.masked (Tail.mine (Tail.ends g) g) p (constant S_ .f32 0x00000000#32) (ix3 R d n)) = p (ix3 R e n) := by
  rw [Finset.sum_eq_single e]
  · rw [masked_at, mine_eq hg hs, if_pos ⟨h1, h2⟩]
    rfl
  · intro d _ hd
    rw [masked_at, mine_eq hg hs, if_neg]
    · rfl
    · rintro ⟨h3, h4⟩
      exact hd (Fin.ext (pre_step_unique s h3 h4 h1 h2))
  · exact fun h => absurd (Finset.mem_univ e) h

/-- The reference's result: the element of the row's owner. -/
theorem ref_eq (x : Vec Ideal S4096x3072 .bf16) (g : IVec S16 32) (q : Vec Ideal S16x1536x1408 .i8) (w : Vec Ideal S16x24x1408 .f32) {s : ℕ → ℕ}
    (hg : ∀ i : Fin 16, g (ix1 i) = BitVec.ofNat 32 (s i.val)) (hs : pre s 16 = 4096) (R : Fin 4096) (e : Fin 16)
    (h1 : pre s e.val ≤ R.val) (h2 : R.val < pre s (e.val + 1)) (n : Fin 1408) :
    Tail.final (Tail.masked (Tail.mine (Tail.ends g) g)
      (Tail.products (F := Ideal) (k0_pay5 (F := Ideal) x) (Tail.weights (k0_pay1 (F := Ideal) (k0_pay8 (F := Ideal) q)) (k0_pay2 (F := Ideal) (k0_pay9 (F := Ideal) q)) w))
      (constant S_ .f32 0x00000000#32)) (k0_pay6 (F := Ideal) x) (ix2 R n)
      = (∑ k, refQuant (row x R) k * weight q w e k n) * refScale (row x R) := by
  rw [final_at, sum_owner hg hs R e h1 h2, products_at, xs_eq]
  simp only [xq_eq, weights_eq]

end Reference

end Cert.Owner

end

end
-- ==== Proof.KernelValue.lean ====
/-
  The kernel's result: after every visit the output block holds, in the rows of the experts that have visited its tile,
  the elements of the product; every tile is written back after its last visit; so every row of the result is the element
  of the row's owner.
-/
module

public import proofs.«01_k».proof.Proof.Launch
public import proofs.«01_k».proof.Proof.Quantised
public import proofs.«01_k».proof.Proof.Owner

@[expose] public section

set_option maxRecDepth 16384

noncomputable section

namespace Cert.KernelIdeal.Result

open Idealize.ShloMosaic Idealize.ShloMosaic.TcCoe Idealize.ShloMosaic.Pipeline
open Cert.KernelIdeal Cert.KernelIdeal.Gen Cert.KernelIdeal.Body Cert.KernelIdeal.Points Cert.KernelIdeal.Config Cert.KernelIdeal.Run
open Cert.Visits Cert.Weights Cert.Rows Cert.Owner

attribute [local irreducible] Points.pf

variable {m : (ℓ : Loc nD τ sig) → Buf (Elt Ideal) ℓ} (hO : Ok m) (c : Dev nD)

/-- The activations as launched, -/
abbrev act : Vec Ideal S4096x3072 .bf16 := m ((c : Thread nD τ).loc main_arg0)
/-- the packed weights, and -/
abbrev packed : Vec Ideal S16x1536x1408 .i8 := m ((c : Thread nD τ).loc main_arg2)
/-- their scales. -/
abbrev scales : Vec Ideal S16x24x1408 .f32 := m ((c : Thread nD τ).loc main_arg3)

/-! ## The blocks a grid point reads -/

theorem pt_lt (n : ℕ) (hn : n < 31) : (pt hO n).val = n := by show min n 30 = n; omega

theorem index_0 (t : Fin (cfgA hO).N) : ((cfgA hO).win 0).index t = ![tid (size m 0) t.val, 0] := by
  have h := transform_0 hO ((cfgA hO).grid.coords t)
  rw [coords_val hO t] at h
  exact h

theorem index_1 (t : Fin (cfgA hO).N) : ((cfgA hO).win 1).index t = ![gid (size m 0) t.val, 0, 0] := by
  have h := transform_1 hO ((cfgA hO).grid.coords t)
  rw [coords_val hO t] at h
  exact h

theorem index_2 (t : Fin (cfgA hO).N) : ((cfgA hO).win 2).index t = ![gid (size m 0) t.val, 0, 0] := by
  have h := transform_2 hO ((cfgA hO).grid.coords t)
  rw [coords_val hO t] at h
  exact h

/-- An element of a block is the array's where the window puts it. -/
theorem read_blk (w : Fin (cfgA hO).W) (n : ℕ) (y : (((cfgA hO).win w).xblock ((cfgA hO).grid.coords (pt hO n))).Idx) :
    iblk hO c w (pt hO n) y = _root_.cast (congrArg (Elt Ideal) (((cfgA hO).win w).blk (pt hO n)).view.elt_eq)
      (Entry.V m c (Pipeline.arrRef spec0 w) ((((cfgA hO).win w).blk (pt hO n)).view.emb y)) := by
  unfold iblk
  rw [View.read_apply]

/-- Row `a` of tile `t`. -/
def rowOf (t : ℕ) (a : Fin 256) (ht : t < 16) : Fin 4096 := ⟨256 * t + a.val, by omega⟩

theorem x0_at (n : ℕ) (hn : n < 31) (a : Fin 256) (k : Fin 3072) :
    x0 hO c n (ix2 a k) = act (m := m) c (ix2 (rowOf (tid (size m 0) n) a (tid16 hO n)) k) := by
  refine (read_blk hO c 0 n (ix2 a k)).trans ?_
  refine (congrFun (Entry.V_arg0 m c) _).trans (congrArg (act (m := m) c) (funext fun i => Fin.ext ?_))
  refine (((cfgA hO).win 0).rect_emb_val (pt hO n) (ix2 a k) i).trans ?_
  rw [index_0, pt_lt hO n hn]
  fin_cases i
  · show tid (size m 0) n * 256 + a.val = 256 * tid (size m 0) n + a.val
    omega
  · show 0 * 3072 + k.val = k.val
    omega

theorem x1_at (n : ℕ) (hn : n < 31) (p : Fin 1536) (b : Fin 1408) :
    x1 hO c n (ix3 0 p b) = packed (m := m) c (ix3 ⟨gid (size m 0) n, gid16 hO n⟩ p b) := by
  refine (read_blk hO c 1 n (ix3 0 p b)).trans ?_
  refine (congrFun (Entry.V_arg2 m c) _).trans (congrArg (packed (m := m) c) (funext fun i => Fin.ext ?_))
  refine (((cfgA hO).win 1).rect_emb_val (pt hO n) (ix3 0 p b) i).trans ?_
  rw [index_1, pt_lt hO n hn]
  fin_cases i
  · show gid (size m 0) n * 1 + 0 = gid (size m 0) n
    omega
  · show 0 * 1536 + p.val = p.val
    omega
  · show 0 * 1408 + b.val = b.val
    omega

theorem x2_at (n : ℕ) (hn : n < 31) (p : Fin 24) (b : Fin 1408) :
    x2 hO c n (ix3 0 p b) = scales (m := m) c (ix3 ⟨gid (size m 0) n, gid16 hO n⟩ p b) := by
  refine (read_blk hO c 2 n (ix3 0 p b)).trans ?_
  refine (congrFun (Entry.V_arg3 m c) _).trans (congrArg (scales (m := m) c) (funext fun i => Fin.ext ?_))
  refine (((cfgA hO).win 2).rect_emb_val (pt hO n) (ix3 0 p b) i).trans ?_
  rw [index_2, pt_lt hO n hn]
  fin_cases i
  · show gid (size m 0) n * 1 + 0 = gid (size m 0) n
    omega
  · show 0 * 24 + p.val = p.val
    omega
  · show 0 * 1408 + b.val = b.val
    omega

/-! ## The scratch at a visit -/

theorem deq_x (n : ℕ) (hn : n < 31) (k : Fin 3072) (b : Fin 1408) :
    deq (F := Ideal) (x1 hO c n) (x2 hO c n) (ix2 k b) = weight (packed (m := m) c) (scales (m := m) c) ⟨gid (size m 0) n, gid16 hO n⟩ k b := by
  rw [deq_eq, x1_at hO c n hn, x2_at hO c n hn, weight]

/-- The weight scratch holds the visit's expert's weights. -/
theorem Wt_eq (n : ℕ) (hn : n < nv (size m 0)) (k : Fin 3072) (b : Fin 1408) :
    Wt hO c n (ix2 k b) = weight (packed (m := m) c) (scales (m := m) c) ⟨gid (size m 0) n, gid16 hO n⟩ k b := by
  have h31 := nv_le (hO 0)
  induction n with
  | zero => exact deq_x hO c 0 (by omega) k b
  | succ n ih =>
    rw [Wt]
    by_cases h : newG (m := m) (n + 1)
    · rw [if_pos h]
      exact deq_x hO c (n + 1) (by omega) k b
    · rw [if_neg h, ih (by omega)]
      have e : gid (size m 0) n = gid (size m 0) (n + 1) := by
        by_contra hne
        exact h ⟨hn, Or.inr hne⟩
      simp only [e]

section
variable (hx : ∀ R : Fin 4096, Fin' (row (act (m := m) c) R))
include hx

theorem qx_x (n : ℕ) (hn : n < 31) (a : Fin 256) (k : Fin 3072) :
    qx (F := Ideal) (x0 hO c n) (ix2 a k) = quant (row (act (m := m) c) (rowOf (tid (size m 0) n) a (tid16 hO n))) k := by
  have e : (fun k => x0 hO c n (ix2 a k)) = row (act (m := m) c) (rowOf (tid (size m 0) n) a (tid16 hO n)) := funext fun k => x0_at hO c n hn a k
  rw [qx_eq _ a (by rw [e]; exact hx _), e]

theorem qs_x (n : ℕ) (hn : n < 31) (a : Fin 256) :
    qs (F := Ideal) (x0 hO c n) (ix2 a 0) = scale (row (act (m := m) c) (rowOf (tid (size m 0) n) a (tid16 hO n))) := by
  have e : (fun k => x0 hO c n (ix2 a k)) = row (act (m := m) c) (rowOf (tid (size m 0) n) a (tid16 hO n)) := funext fun k => x0_at hO c n hn a k
  rw [qs_eq _ a (by rw [e]; exact hx _), e]

/-- The row scratch holds the visit's tile's quantised rows, and -/
theorem Xq_eq (n : ℕ) (hn : n < nv (size m 0)) (a : Fin 256) (k : Fin 3072) :
    Xq hO c n (ix2 a k) = quant (row (act (m := m) c) (rowOf (tid (size m 0) n) a (tid16 hO n))) k := by
  have h31 := nv_le (hO 0)
  induction n with
  | zero => exact qx_x hO c hx 0 (by omega) a k
  | succ n ih =>
    rw [Xq]
    by_cases h : newT (m := m) (n + 1)
    · rw [if_pos h]
      exact qx_x hO c hx (n + 1) (by omega) a k
    · rw [if_neg h, ih (by omega)]
      have e : tid (size m 0) n = tid (size m 0) (n + 1) := by
        by_contra hne
        exact h ⟨hn, Or.inr hne⟩
      simp only [e]

/-- the scale scratch their scales. -/
theorem Sc_eq (n : ℕ) (hn : n < nv (size m 0)) (a : Fin 256) :
    Sc hO c n (ix2 a 0) = scale (row (act (m := m) c) (rowOf (tid (size m 0) n) a (tid16 hO n))) := by
  have h31 := nv_le (hO 0)
  induction n with
  | zero => exact qs_x hO c hx 0 (by omega) a
  | succ n ih =>
    rw [Sc]
    by_cases h : newT (m := m) (n + 1)
    · rw [if_pos h]
      exact qs_x hO c hx (n + 1) (by omega) a
    · rw [if_neg h, ih (by omega)]
      have e : tid (size m 0) n = tid (size m 0) (n + 1) := by
        by_contra hne
        exact h ⟨hn, Or.inr hne⟩
      simp only [e]

end

/-! ## What a visit makes of the output block -/

theorem pay4_at (i : grid0.Coords) (t p : BitVec 32) (X : Vec Ideal S256x3072 .bf16) (W : Vec Ideal S3072x1408 .bf16) (S : Vec Ideal S256x1 .f32)
    (lo hi : BitVec 32) (o : Vec Ideal S256x1408 .bf16) (a : Fin 256) (n : Fin 1408) :
    k0_pay4 (F := Ideal) i t p X W S lo hi o (ix2 a n)
      = Scalar.select
          (IntOp.andi (IntOp.cmpi .sge (IntOp.addi (Scalar.muli t 256#32) (BitVec.ofNat 32 a.val)) lo)
            (IntOp.cmpi .slt (IntOp.addi (Scalar.muli t 256#32) (BitVec.ofNat 32 a.val)) hi))
          ((∑ x, X (ix2 a x) * W (ix2 x n)) * S (ix2 a 0))
          (Scalar.select (Scalar.ori (Scalar.cmpi .eq (BitVec.ofNat 32 (i 0).val) 0#32) (Scalar.cmpi .ne p t)) 0 (o (ix2 a n))) := by
  unfold k0_pay4
  pointwise

/-- The word that says a visit starts its tile. -/
theorem first_word (i : grid0.Coords) (t p : ℕ) (ht : t < 32) (hp : p < 32) :
    Scalar.ori (Scalar.cmpi .eq (BitVec.ofNat 32 (i 0).val) 0#32) (Scalar.cmpi .ne (BitVec.ofNat 32 p) (BitVec.ofNat 32 t))
      = if (i 0).val = 0 ∨ p ≠ t then 1#1 else 0#1 := by
  have hi := (i 0).isLt
  change (i 0).val < 31 at hi
  have k2 : ∀ (k n : Fin 32), Scalar.cmpi .ne (BitVec.ofNat 32 k.val) (BitVec.ofNat 32 n.val) = BitVec.ofBool (decide (k.val ≠ n.val)) := by decide +kernel
  have k3 : ∀ (k : Fin 31), Scalar.cmpi .eq (BitVec.ofNat 32 k.val) 0#32 = BitVec.ofBool (decide (k.val = 0)) := by decide +kernel
  have k4 : ∀ b d : Bool, Scalar.ori (BitVec.ofBool b) (BitVec.ofBool d) = if b = true ∨ d = true then 1#1 else 0#1 := by decide +kernel
  rw [k2 ⟨p, hp⟩ ⟨t, ht⟩, k3 ⟨(i 0).val, hi⟩, k4]
  simp only [decide_eq_true_eq]

theorem select_if (P : Prop) [Decidable P] (x y : EReal) : Scalar.select (if P then 1#1 else 0#1) x y = if P then x else y := by
  by_cases h : P
  · rw [if_pos h, if_pos h]; rfl
  · rw [if_neg h, if_neg h]; rfl

/-- The rows of the visit's expert take the product, the others keep what the block held, or zero where the visit starts
    the tile. -/
theorem put_eq (n : ℕ) (hn : n < nv (size m 0)) (o : Vec Ideal S256x1408 .bf16) (a : Fin 256) (b : Fin 1408) :
    put hO c n o (ix2 a b)
      = if pre (size m 0) (gid (size m 0) n) ≤ 256 * tid (size m 0) n + a.val ∧ 256 * tid (size m 0) n + a.val < pre (size m 0) (gid (size m 0) n + 1)
        then (∑ k, Xq hO c n (ix2 a k) * Wt hO c n (ix2 k b)) * Sc hO c n (ix2 a 0)
        else if n = 0 ∨ tid (size m 0) (n - 1) ≠ tid (size m 0) n then 0 else o (ix2 a b) := by
  have h31 := nv_le (hO 0)
  have h1 := tid16 hO n
  have h2 := tid16 hO (n - 1)
  have h3 := gid16 hO n
  have h4 := pre_le (hO 0) (n := gid (size m 0) n) (by omega)
  have h5 := pre_le (hO 0) (n := gid (size m 0) n + 1) (by omega)
  have e : IntOp.addi (Scalar.muli (BitVec.ofNat 32 (tid (size m 0) n)) 256#32) (BitVec.ofNat 32 a.val) = BitVec.ofNat 32 (256 * tid (size m 0) n + a.val) := by
    show BitVec.ofNat 32 (tid (size m 0) n) * BitVec.ofNat 32 256 + BitVec.ofNat 32 a.val = _
    rw [← BitVec.ofNat_mul, ← BitVec.ofNat_add, Nat.mul_comm]
  unfold put
  rw [pay4_at, e, between (by omega) (by omega) (by omega), first_word _ _ _ (by omega) (by omega), coords_pt hO n (by omega), select_if, select_if]

section
variable (hx : ∀ R : Fin 4096, Fin' (row (act (m := m) c) R))
include hx

/-- After visit `n` the output block holds the elements of every expert that has visited its tile. -/
theorem Ob_eq (n u : ℕ) (hu : u ≤ n) (hun : u < nv (size m 0)) (ht : tid (size m 0) u = tid (size m 0) n) (a : Fin 256) (b : Fin 1408)
    (h1 : pre (size m 0) (gid (size m 0) u) ≤ 256 * tid (size m 0) u + a.val) (h2 : 256 * tid (size m 0) u + a.val < pre (size m 0) (gid (size m 0) u + 1)) :
    Ob hO c n (ix2 a b)
      = cell (act (m := m) c) (packed (m := m) c) (scales (m := m) c) (rowOf (tid (size m 0) u) a (tid16 hO u)) ⟨gid (size m 0) u, gid16 hO u⟩ b := by
  have own : ∀ v, v < nv (size m 0) → (∑ k, Xq hO c v (ix2 a k) * Wt hO c v (ix2 k b)) * Sc hO c v (ix2 a 0)
      = cell (act (m := m) c) (packed (m := m) c) (scales (m := m) c) (rowOf (tid (size m 0) v) a (tid16 hO v)) ⟨gid (size m 0) v, gid16 hO v⟩ b := by
    intro v hv
    rw [Sc_eq hO c hx v hv, cell]
    simp only [Xq_eq hO c hx v hv, Wt_eq hO c v hv]
  induction n with
  | zero =>
    obtain rfl : u = 0 := by omega
    rw [Ob]
    refine (put_eq hO c 0 hun _ a b).trans ?_
    rw [if_pos ⟨h1, h2⟩]
    exact own 0 hun
  | succ n ih =>
    rw [Ob]
    by_cases hn : n + 1 < nv (size m 0)
    · rw [if_pos hn, put_eq hO c (n + 1) hn, ← ht]
      by_cases h : pre (size m 0) (gid (size m 0) (n + 1)) ≤ 256 * tid (size m 0) u + a.val ∧ 256 * tid (size m 0) u + a.val < pre (size m 0) (gid (size m 0) (n + 1) + 1)
      · have e := pre_step_unique (size m 0) h1 h2 h.1 h.2
        rw [if_pos h, own (n + 1) hn]
        simp only [ht, e]
      · have hle : u ≤ n := by
          by_contra hgt
          obtain rfl : u = n + 1 := by omega
          exact h ⟨h1, h2⟩
        have m1 := tid_mono (hO 0) hle
        have m2 := tid_mono (hO 0) (Nat.le_succ n)
        have e : tid (size m 0) u = tid (size m 0) n := by
          change _ ≤ tid (size m 0) (n + 1) at m2
          omega
        rw [if_neg h, if_neg (by
          rintro (h0 | h0)
          · omega
          · exact h0 (by show tid (size m 0) n = _; omega))]
        exact ih hle e
    · rw [if_neg hn]
      exact ih (by omega) (by rw [ht]; exact (Visits.idle_eq (by omega)).2)

end

end Cert.KernelIdeal.Result

end

end
-- ==== Proof.Result.lean ====
/-
  Every element of the kernel's result is the element of its row's owner.
-/
module

public import proofs.«01_k».proof.Proof.KernelValue

@[expose] public section

set_option maxRecDepth 16384

noncomputable section

namespace Cert.KernelIdeal.Result

open Idealize.ShloMosaic Idealize.ShloMosaic.TcCoe Idealize.ShloMosaic.Pipeline
open Cert.KernelIdeal Cert.KernelIdeal.Gen Cert.KernelIdeal.Body Cert.KernelIdeal.Points Cert.KernelIdeal.Config Cert.KernelIdeal.Run
open Cert.Visits Cert.Weights Cert.Rows Cert.Owner

attribute [local irreducible] Points.pf

variable {m : (ℓ : Loc nD τ sig) → Buf (Elt Ideal) ℓ} (hO : Ok m) (c : Dev nD)

/-- The last visit of a tile writes it back. -/
theorem last_visit (R : ℕ) (hR : R < 4096) : ∃ t : Fin (cfgA hO).N, ((cfgA hO).win 3).flush t = true ∧ tid (size m 0) t.val = R / 256 := by
  obtain ⟨u, hu, h, -⟩ := covered (hO 0) R hR
  have h31 := nv_le (hO 0)
  have hN : (cfgA hO).N = 31 := N_0
  have hs := Nat.findGreatest_spec (P := fun v => tid (size m 0) v = R / 256) (n := 30) (m := u) (by omega) h
  have hl := Nat.findGreatest_le (P := fun v => tid (size m 0) v = R / 256) 30
  have hg := fun k => Nat.findGreatest_is_greatest (P := fun v => tid (size m 0) v = R / 256) (n := 30) (k := k)
  obtain ⟨t, ht⟩ : ∃ t, t = Nat.findGreatest (fun v => tid (size m 0) v = R / 256) 30 := ⟨_, rfl⟩
  rw [← ht] at hs hl hg
  refine ⟨⟨t, by omega⟩, (flush_3 hO _).mpr ?_, hs⟩
  by_cases h30 : t = 30
  · exact Or.inl h30
  · refine Or.inr ?_
    show tid (size m 0) (t + 1) ≠ tid (size m 0) t
    rw [hs]
    exact hg (t + 1) (by omega) (by omega)

/-- Where the output window puts an element of its block. -/
theorem emb_3 (t : Fin (cfgA hO).N) (a : Fin 256) (b : Fin 1408) :
    ((((cfgA hO).win 3).blk t).view.emb (ix2 a b) : S4096x1408.Idx) = ix2 (rowOf (tid (size m 0) t.val) a (tid16 hO _)) b := by
  funext i
  apply Fin.ext
  refine (((cfgA hO).win 3).rect_emb_val t (ix2 a b) i).trans ?_
  rw [index_3]
  fin_cases i
  · show tid (size m 0) t.val * 256 + a.val = 256 * tid (size m 0) t.val + a.val
    omega
  · show 0 * 1408 + b.val = b.val
    omega

/-- Every row is in a block that is written back. -/
theorem cover_3 (i : S4096x1408.Idx) : ∃ t : Fin (cfgA hO).N, ((cfgA hO).win 3).flush t = true ∧ i ∈ (((cfgA hO).win 3).blk t).view.set := by
  have h0 := (i 0).isLt
  change (i 0).val < 4096 at h0
  obtain ⟨t, hf, ht⟩ := last_visit hO (i 0).val h0
  refine ⟨t, hf, (((cfgA hO).win 3).emb_mem_blk_iff t i).mpr fun a => ?_⟩
  rw [index_3, ht]
  fin_cases a
  · show (i 0).val / 256 * 256 ≤ (i 0).val ∧ (i 0).val < (i 0).val / 256 * 256 + 256
    omega
  · have h1 := (i 1).isLt
    change (i 1).val < 1408 at h1
    show 0 * 1408 ≤ (i 1).val ∧ (i 1).val < 0 * 1408 + 1408
    omega

/-- An element of the result is the element of its row's owner. -/
def Owned (i : S4096x1408.Idx) (v : EReal) : Prop :=
  ∀ e : Fin 16, pre (size m 0) e.val ≤ (i 0).val → (i 0).val < pre (size m 0) (e.val + 1) →
    v = cell (act (m := m) c) (packed (m := m) c) (scales (m := m) c) (i 0) e (i 1)

variable (hx : ∀ R : Fin 4096, Fin' (row (act (m := m) c) R))
include hx

/-- The blocks written back are so. -/
theorem flushed_owned (t : Fin (cfgA hO).N) (hf : ((cfgA hO).win 3).flush t = true) (a : Fin 256) (b : Fin 1408) :
    Owned (m := m) c (ix2 (rowOf (tid (size m 0) t.val) a (tid16 hO _)) b) (Ob hO c t.val (ix2 a b)) := by
  intro e h1 h2
  change pre (size m 0) e.val ≤ 256 * tid (size m 0) t.val + a.val at h1
  change 256 * tid (size m 0) t.val + a.val < pre (size m 0) (e.val + 1) at h2
  have ht16 := tid16 hO t.val
  have h31 := nv_le (hO 0)
  have hlt := lt31 hO t
  obtain ⟨u, hu, hut, hu1, hu2⟩ := covered (hO 0) (256 * tid (size m 0) t.val + a.val) (by omega)
  have ht : tid (size m 0) u = tid (size m 0) t.val := by omega
  have hle : u ≤ t.val := by
    rcases (flush_3 hO t).mp hf with h | h
    · omega
    · by_contra hgt
      have m1 := tid_mono (hO 0) (show t.val + 1 ≤ u by omega)
      have m2 := tid_mono (hO 0) (Nat.le_succ t.val)
      change _ ≤ tid (size m 0) (t.val + 1) at m2
      omega
  have hge : e.val = gid (size m 0) u := pre_step_unique (size m 0) h1 h2 hu1 hu2
  rw [Ob_eq hO c hx t.val u hle hu ht a b (by rw [ht]; exact hu1) (by rw [ht]; exact hu2)]
  obtain rfl : e = ⟨gid (size m 0) u, gid16 hO u⟩ := Fin.ext hge
  have er : rowOf (tid (size m 0) u) a (tid16 hO u) = rowOf (tid (size m 0) t.val) a (tid16 hO _) := Fin.ext (by show 256 * _ + _ = 256 * _ + _; rw [ht])
  rw [er]
  rfl

/-- So is the kernel's result. -/
theorem out_owned (R : Fin 4096) (n : Fin 1408) : Owned (m := m) c (ix2 R n) (Launch.out hO c (ix2 R n)) := by
  refine (dats hO 0 c).arrAt_forall_of_cover 3 (Owned (m := m) c) ?_ (cover_3 hO) (ix2 R n)
  intro t hf y
  obtain ⟨a, b, rfl⟩ : ∃ (a : Fin 256) (b : Fin 1408), y = ix2 a b := ⟨_, _, eq_ix2 (n0 := 256) (n1 := 1408) y⟩
  have hv : (_root_.cast (congrArg (Elt Ideal) (((cfgA hO).win 3).blk t).view.elt_eq.symm) ((dats hO 0 c).flushed 3 t (ix2 a b)) : EReal) = Ob hO c t.val (ix2 a b) :=
    congrFun (after_3 hO c t) (ix2 a b)
  exact Eq.mpr (congrArg₂ (Owned (m := m) c) (emb_3 hO t a b) hv) (flushed_owned hO c hx t hf a b)

end Cert.KernelIdeal.Result

end

end
-- ==== Proof.Domain.lean ====
/-
  What the inputs are assumed to satisfy, read off the predicate: the group sizes add up to the number of rows.
-/
module

public import proofs.«01_k».proof.Pre_sizes_ok
public import proofs.«01_k».proof.Proof.Gen.Pre_sizes_ok
public import proofs.«01_k».proof.Proof.Visits
public import Idealize.ShloMosaic.Lib.ReduceAll
public import Idealize.ShloMosaic.Lib.StableHlo.Predicate
public import Idealize.ShloMosaic.Lib.Routing.Ops
public import Idealize.ShloMosaic.Lib.WordCmp

@[expose] public section

noncomputable section

namespace Cert.Domain

open Idealize.ShloMosaic Idealize.ShloMosaic.ValueIdx Idealize.ShloMosaic.Routing
open Cert.Pre_sizes_ok Cert.Pre_sizes_ok.Gen

variable {F : FTy → Type} [FloatOps F]
variable (x : FVec F S4096x3072 .bf16) (g : IVec S16 32) (w : IVec S16x1536x1408 8) (q : FVec F S16x24x1408 .f32)

theorem and_one (a b : BitVec 1) : IntOp.andi a b = 1#1 ↔ a = 1#1 ∧ b = 1#1 := by revert a b; decide

/-- A word between zero and 4096 as a signed number is so as a natural number. -/
theorem le_of_signed (a : BitVec 32) (h0 : IntOp.cmpi .sge a 0#32 = 1#1) (h1 : IntOp.cmpi .sle a 4096#32 = 1#1) : a.toNat ≤ 4096 := by
  unfold IntOp.cmpi at h0 h1
  rw [StableHlo.Predicate.ofBool_eq_one_iff] at h0 h1
  have h0' := BitVec.sle_iff_toInt_le.mp h0
  have h1' := BitVec.sle_iff_toInt_le.mp h1
  rw [show (0#32 : BitVec 32).toInt = 0 from rfl] at h0'
  rw [show (4096#32 : BitVec 32).toInt = 4096 from rfl] at h1'
  rw [BitVec.toInt_eq_toNat_cond] at h0' h1'
  split at h0' <;> omega

/-- The group sizes as natural numbers. -/
def sizes (i : ℕ) : ℕ := if h : i < 16 then (g (ix1 ⟨i, h⟩)).toNat else 0

/-- The predicate says of every size that it is at most 4096, and of the sum of all that it is 4096. -/
theorem split (h : Pre_sizes_ok.fn x g w q = fun _ => 1#1) :
    (∀ i : S16.Idx, (g i).toNat ≤ 4096)
    ∧ Host.reduce IntOp.addi g (constantI S_ 32 0#32) reducesTo_S16_S_d0 h_S_ ix0 = 4096#32 := by
  obtain ⟨hc, hd⟩ := (and_one _ _).mp (congrFun h ix0)
  refine ⟨fun i => ?_, StableHlo.Predicate.cmpi_eq_iff.mp hd⟩
  obtain ⟨he, hf⟩ := (and_one _ _).mp (Host.reduce_andi_all _ _ _ _ _ hc i)
  exact le_of_signed _ he hf

/-- The group sizes add up to the number of rows. -/
theorem sum_eq (h : Pre_sizes_ok.fn x g w q = fun _ => 1#1) : Visits.pre (sizes g) 16 = 4096 := by
  obtain ⟨hle, hs⟩ := split x g w q h
  have hr := reduce_sum (N := 16) g (sizes g) (fun i => by
    unfold sizes; rw [dif_pos i.isLt, BitVec.ofNat_toNat, BitVec.setWidth_eq]) reducesTo_S16_S_d0 h_S_
  have e := hr.symm.trans hs
  have hb : ∀ i, sizes g i ≤ 4096 := fun i => by
    unfold sizes; split
    · exact hle _
    · exact Nat.zero_le _
  have hlt : ∀ n, Visits.pre (sizes g) n ≤ 4096 * n := fun n => by
    induction n with
    | zero => exact le_rfl
    | succ n ih => rw [Visits.pre_succ]; have := hb n; omega
  have h16 := hlt 16
  have e2 := congrArg BitVec.toNat e
  rw [BitVec.toNat_ofNat] at e2
  change Visits.pre (sizes g) 16 % 2 ^ 32 = 4096 at e2
  omega

end Cert.Domain

end

end
-- ==== Proof.Inputs.lean ====
/-
  What the precondition on the inputs says: every element of the rows is finite, and the group sizes are as the
  precondition on the sizes has them.
-/
module

public import proofs.«01_k».proof.Proof.Domain
public import proofs.«01_k».proof.Proof.Gen.Pre_inputs_ok
public import Idealize.ShloMosaic.Lib.Pointwise

@[expose] public section

noncomputable section

namespace Cert.Inputs

open Idealize.ShloMosaic
open Cert.Pre_inputs_ok Cert.Pre_inputs_ok.Gen

variable (x : FVec Ideal S4096x3072 .bf16) (g : IVec S16 32) (w : IVec S16x1536x1408 8) (q : FVec Ideal S16x24x1408 .f32)

theorem finite (h : Pre_inputs_ok.fn x g w q = fun _ => 1#1) (y : S4096x3072.Idx) :
    max (x y) (-(x y)) ≤ Ideal.ofBits .f32 0x7F7F0000#32 :=
  (Ideal.cmp_ole_eq_one _ _).mp ((Domain.and_one _ _).mp (congrFun h y)).1

theorem sizes_ok (h : Pre_inputs_ok.fn x g w q = fun _ => 1#1) : Pre_sizes_ok.fn x g w q = fun _ => 1#1 := by
  funext j
  have e := ((Domain.and_one _ _).mp (congrFun h (ix2 0 0))).2
  rw [← e]
  unfold broadcastInDim
  rw [show j = fun a => a.elim0 from funext fun a => a.elim0]
  refine congrArg _ (funext fun a => a.elim0)

end Cert.Inputs

end

end
-- ==== Proof.Equation.lean ====
/-
  The two results are equal wherever the group sizes add up to the number of rows and every activation is finite.
-/
module

public import proofs.«01_k».proof.Proof.Result
public import proofs.«01_k».proof.Proof.Inputs

@[expose] public section

set_option maxRecDepth 16384

noncomputable section

namespace Cert.Equation

open Idealize.ShloMosaic Idealize.ShloMosaic.TcCoe
open Cert.Visits Cert.Owner Cert.Rows Cert.Weights

variable {m : (ℓ : Loc KernelIdeal.nD KernelIdeal.τ KernelIdeal.sig) → Buf (Elt Ideal) ℓ}
variable {m' : (ℓ : Loc ReferenceIdeal.nD ReferenceIdeal.τ ReferenceIdeal.sig) → Buf (Elt Ideal) ℓ}

/-- The reference's result and the kernel's. -/
theorem results_eq (hO : KernelIdeal.Points.Ok m) (c : Dev KernelIdeal.nD)
    (hx : ∀ R : Fin 4096, Fin' (row (KernelIdeal.Result.act (m := m) c) R))
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3)) :
    (ReferenceIdeal.Final.val m' c : Vec Ideal KernelIdeal.S4096x1408 .bf16) = KernelIdeal.Launch.out hO c := by
  funext i
  obtain ⟨R, n, rfl⟩ : ∃ (R : Fin 4096) (n : Fin 1408), i = ix2 R n := ⟨_, _, eq_ix2 i⟩
  obtain ⟨e, he, o1, o2⟩ := owner (hO 0) R.val R.isLt
  have hk := KernelIdeal.Result.out_owned hO c hx R n ⟨e, he⟩ o1 o2
  refine Eq.trans ?_ hk.symm
  unfold ReferenceIdeal.Final.val ReferenceIdeal.Final.xq ReferenceIdeal.Final.xs ReferenceIdeal.Final.lo ReferenceIdeal.Final.hi
  rw [h0, h1, h2, h3]
  refine (ref_eq _ _ _ _ (s := KernelIdeal.Points.size m 0) (fun j => ?_) (hO 0) R ⟨e, he⟩ o1 o2 n).trans
    (product_eq _ (hx R) fun k => weight _ _ ⟨e, he⟩ k n)
  rw [ix1_eq_valueIdx, Subsingleton.elim c 0]
  exact KernelIdeal.Points.size_ap m 0 j

end Cert.Equation

end

end
-- ==== Proof.lean ====
module

public import proofs.«01_k».proof.Defs
public import proofs.«01_k».proof.Proof.Launch
public import proofs.«01_k».proof.Proof.LaunchK
public import proofs.«01_k».proof.Proof.Equation
public import proofs.«01_k».proof.Proof.Inputs
public import proofs.«01_k».proof.Proof.Domain
public import proofs.«01_k».proof.Proof.RefRun
public import proofs.«01_k».proof.Proof.Gen.ReferenceIdeal.Frame
public import proofs.«01_k».proof.Proof.Gen.Pre_sizes_ok
public import proofs.«01_k».proof.Proof.Gen.Pre_inputs_ok

@[expose] public section

noncomputable section

namespace Cert.Proof

open Idealize.ShloMosaic Idealize.SL.Sem

/-- The group sizes of inputs the equation is claimed for add up to the number of rows. -/
theorem sizes_of_inputs {m : (ℓ : Loc Cert.KernelIdeal.nD Cert.KernelIdeal.τ Cert.KernelIdeal.sig) → Buf (Elt Ideal) ℓ}
    (h : Pre_KernelIdeal_inputs_ok (hPre_inputs_ok := Cert.Pre_inputs_ok.Gen.facts) m) : Cert.KernelIdeal.Points.Ok m :=
  fun c => Domain.sum_eq _ _ _ _ (Inputs.sizes_ok _ _ _ _ (h c))

/-- The two programs end with equal results. -/
theorem equal : algebraic_KernelIdeal_ReferenceIdeal_pre_inputs_ok (hKernelIdeal := Cert.KernelIdeal.Gen.facts)
    (hReferenceIdeal := Cert.ReferenceIdeal.Gen.facts) (hPre_inputs_ok := Cert.Pre_inputs_ok.Gen.facts) := fun m ρ m' ρ' h hm =>
  ⟨fun c => Cert.KernelIdeal.Launch.out (sizes_of_inputs h) c, Cert.KernelIdeal.Launch.values (sizes_of_inputs h) ρ,
    (θ_run Cert.ReferenceIdeal.defs _ _).mono
      (fun _ hr c => ⟨(hr c).1.trans (Equation.results_eq (sizes_of_inputs h) c (fun R k => Inputs.finite _ _ _ _ (h c) (ix2 R k))
        (hm c).1 (hm c).2.1 (hm c).2.2.1 (hm c).2.2.2), (hr c).2⟩)
      (Cert.ReferenceIdeal.Final.values m' ρ')⟩

theorem claim : Cert.Claim := ⟨Cert.Kernel.Gen.facts, Cert.KernelIdeal.Gen.facts, Cert.ReferenceIdeal.Gen.facts,
  Cert.Pre_sizes_ok.Gen.facts, Cert.Pre_inputs_ok.Gen.facts,
  fun m ρ h => Cert.Kernel.Launch.frame (m := m) (fun c => Domain.sum_eq _ _ _ _ (h c)) ρ,
  fun m ρ h => Cert.KernelIdeal.Launch.frame (m := m) (fun c => Domain.sum_eq _ _ _ _ (h c)) ρ,
  fun m ρ h => Cert.KernelIdeal.Launch.frame (m := m) (sizes_of_inputs h) ρ,
  fun m ρ _ => Cert.ReferenceIdeal.Gen.frame m ρ,
  fun m ρ _ => Cert.ReferenceIdeal.Gen.frame m ρ,
  trivial, equal⟩

end Cert.Proof

end

end
